-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92_0) = v0 c
          ∧ r.2.mem ((c.tc : Thread Cert.ReferenceIdeal.nD Cert.ReferenceIdeal.τ).loc Cert.ReferenceIdeal.main_v92_1) = v1 c
          ∧ r.2.mem ((c.tc : Thread Cert.ReferenceIdeal.nD Cert.ReferenceIdeal.τ).loc Cert.ReferenceIdeal.main_v92_2) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3000000x96 : Shape := ⟨2, ![3000000, 96]⟩
abbrev S3000000 : Shape := ⟨1, ![3000000]⟩
abbrev S65536 : Shape := ⟨1, ![65536]⟩
abbrev S262144 : Shape := ⟨1, ![262144]⟩
abbrev S2049 : Shape := ⟨1, ![2049]⟩
abbrev S2048x96 : Shape := ⟨2, ![2048, 96]⟩
abbrev S65536x96 : Shape := ⟨2, ![65536, 96]⟩
abbrev S1x262144 : Shape := ⟨2, ![1, 262144]⟩
abbrev S2049x1 : Shape := ⟨2, ![2049, 1]⟩
abbrev S2049x262144 : Shape := ⟨2, ![2049, 262144]⟩
abbrev S_ : Shape := ⟨0, ![]⟩
abbrev S262144x1 : Shape := ⟨2, ![262144, 1]⟩
abbrev S262144x96 : Shape := ⟨2, ![262144, 96]⟩
abbrev S65536x1 : Shape := ⟨2, ![65536, 1]⟩
abbrev S65536x24x4 : Shape := ⟨3, ![65536, 24, 4]⟩
abbrev S65536x24 : Shape := ⟨2, ![65536, 24]⟩
abbrev S24x65536 : Shape := ⟨2, ![24, 65536]⟩
abbrev S96x65536 : Shape := ⟨2, ![96, 65536]⟩
abbrev S512x128 : Shape := ⟨2, ![512, 128]⟩
abbrev S96x2048 : Shape := ⟨2, ![96, 2048]⟩
abbrev S24x2048 : Shape := ⟨2, ![24, 2048]⟩
abbrev S16x128 : Shape := ⟨2, ![16, 128]⟩
abbrev S96x128 : Shape := ⟨2, ![96, 128]⟩
abbrev S1x128 : Shape := ⟨2, ![1, 128]⟩
abbrev S128 : Shape := ⟨1, ![128]⟩
abbrev S24x128 : Shape := ⟨2, ![24, 128]⟩

abbrev nBuf : Space → Nat
  | .hbm => 90
  | .vmem => 20
  | .smem => 0
  | _ => 0

abbrev bufTy : (tb : Table) → Fin (tcTables nBuf tb) → BufTy
  | .hbm, ⟨0, _⟩ => ⟨S3000000x96, .i8⟩
  | .hbm, ⟨1, _⟩ => ⟨S3000000, .f32⟩
  | .hbm, ⟨2, _⟩ => ⟨S3000000, .f32⟩
  | .hbm, ⟨3, _⟩ => ⟨S3000000, .f32⟩
  | .hbm, ⟨4, _⟩ => ⟨S65536, .i32⟩
  | .hbm, ⟨5, _⟩ => ⟨S262144, .i32⟩
  | .hbm, ⟨6, _⟩ => ⟨S2049, .i32⟩
  | .hbm, ⟨7, _⟩ => ⟨S262144, .f32⟩
  | .hbm, ⟨8, _⟩ => ⟨S2048x96, .f32⟩
  | .hbm, ⟨9, _⟩ => ⟨S65536x96, .i32⟩
  | .hbm, ⟨10, _⟩ => ⟨S262144, .i32⟩
  | .hbm, ⟨11, _⟩ => ⟨S1x262144, .i32⟩
  | .hbm, ⟨12, _⟩ => ⟨S2049x1, .i32⟩
  | .hbm, ⟨13, _⟩ => ⟨S2049x262144, .i32⟩
  | .hbm, ⟨14, _⟩ => ⟨S2049x262144, .i32⟩
  | .hbm, ⟨15, _⟩ => ⟨S2049x262144, .i1⟩
  | .hbm, ⟨16, _⟩ => ⟨S2049x262144, .i32⟩
  | .hbm, ⟨17, _⟩ => ⟨S_, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144x1, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x96, .f32⟩
  | .hbm, ⟨32, _⟩ => ⟨S262144x96, .f32⟩
  | .hbm, ⟨33, _⟩ => ⟨S262144x96, .f32⟩
  | .hbm, ⟨34, _⟩ => ⟨S_, .f32⟩
  | .hbm, ⟨35, _⟩ => ⟨S65536x96, .f32⟩
  | .hbm, ⟨36, _⟩ => ⟨S262144x1, .i32⟩
  | .hbm, ⟨37, _⟩ => ⟨S65536x96, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x96, .i8⟩
  | .hbm, ⟨47, _⟩ => ⟨S65536x24x4, .i8⟩
  | .hbm, ⟨48, _⟩ => ⟨S65536x24, .i32⟩
  | .hbm, ⟨49, _⟩ => ⟨S24x65536, .i32⟩
  | .hbm, ⟨50, _⟩ => ⟨S96x65536, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536, .f32⟩
  | .hbm, ⟨60, _⟩ => ⟨S512x128, .f32⟩
  | .hbm, ⟨61, _⟩ => ⟨S_, .i32⟩
  | .hbm, ⟨62, _⟩ => ⟨S65536, .i32⟩
  | .hbm, ⟨63, _⟩ => ⟨S65536, .i1⟩
  | .hbm, ⟨64, _⟩ => ⟨S_, .i32⟩
  | .hbm, ⟨65, _⟩ => ⟨S65536, .i32⟩
  | .hbm, ⟨66, _⟩ => ⟨S65536, .i32⟩
  | .hbm, ⟨67, _⟩ => ⟨S65536, .i32⟩
  | .hbm, ⟨68, _⟩ => ⟨S65536x1, .i32⟩
  | .hbm, ⟨69, _⟩ => ⟨S65536, .f32⟩
  | .hbm, ⟨70, _⟩ => ⟨S512x128, .f32⟩
  | .hbm, ⟨71, _⟩ => ⟨S_, .i32⟩
  | .hbm, ⟨72, _⟩ => ⟨S65536, .i32⟩
  | .hbm, ⟨73, _⟩ => ⟨S65536, .i1⟩
  | .hbm, ⟨74, _⟩ => ⟨S_, .i32⟩
  | .hbm, ⟨75, _⟩ => ⟨S65536, .i32⟩
  | .hbm, ⟨76, _⟩ => ⟨S65536, .i32⟩
  | .hbm, ⟨77, _⟩ => ⟨S65536, .i32⟩
  | .hbm, ⟨78, _⟩ => ⟨S65536x1, .i32⟩
  | .hbm, ⟨79, _⟩ => ⟨S65536, .f32⟩
  | .hbm, ⟨80, _⟩ => ⟨S512x128, .f32⟩
  | .hbm, ⟨81, _⟩ => ⟨S96x65536, .i32⟩
  | .hbm, ⟨82, _⟩ => ⟨S96x65536, .i8⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S65536x96, .i8⟩
  | .hbm, ⟨87, _⟩ => ⟨S65536, .f32⟩
  | .hbm, ⟨88, _⟩ => ⟨S65536, .f32⟩
  | .hbm, ⟨89, _⟩ => ⟨S65536, .f32⟩
  | .local _ .vmem, ⟨0, _⟩ => ⟨S96x2048, .f32⟩
  | .local _ .vmem, ⟨1, _⟩ => ⟨S96x2048, .f32⟩
  | .local _ .vmem, ⟨2, _⟩ => ⟨S24x2048, .i32⟩
  | .local _ .vmem, ⟨3, _⟩ => ⟨S24x2048, .i32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S96x2048, .i32⟩
  | .local _ .vmem, ⟨11, _⟩ => ⟨S96x2048, .i32⟩
  | .local _ .vmem, ⟨12, _⟩ => ⟨S96x2048, .i8⟩
  | .local _ .vmem, ⟨13, _⟩ => ⟨S96x2048, .i8⟩
  | .local _ .vmem, ⟨14, _⟩ => ⟨S16x128, .f32⟩
  | .local _ .vmem, ⟨15, _⟩ => ⟨S16x128, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | _, _ => ⟨S3000000x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v53_3 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S3000000x96 : Shape := ⟨2, ![3000000, 96]⟩
abbrev S3000000 : Shape := ⟨1, ![3000000]⟩
abbrev S65536 : Shape := ⟨1, ![65536]⟩
abbrev S262144 : Shape := ⟨1, ![262144]⟩
abbrev S2049 : Shape := ⟨1, ![2049]⟩
abbrev S2048x96 : Shape := ⟨2, ![2048, 96]⟩
abbrev S65536x96 : Shape := ⟨2, ![65536, 96]⟩
abbrev S1x262144 : Shape := ⟨2, ![1, 262144]⟩
abbrev S2049x1 : Shape := ⟨2, ![2049, 1]⟩
abbrev S2049x262144 : Shape := ⟨2, ![2049, 262144]⟩
abbrev S_ : Shape := ⟨0, ![]⟩
abbrev S262144x1 : Shape := ⟨2, ![262144, 1]⟩
abbrev S262144x96 : Shape := ⟨2, ![262144, 96]⟩
abbrev S65536x1 : Shape := ⟨2, ![65536, 1]⟩

abbrev nBuf : Space → Nat
  | .hbm => 142
  | .vmem => 0
  | .smem => 0
  | _ => 0

abbrev hbmTy0_0 (i : Nat) : BufTy := match i % 128 with
  | 0 => ⟨S3000000x96, .i8⟩
  | 1 => ⟨S3000000, .f32⟩
  | 2 => ⟨S3000000, .f32⟩
  | 3 => ⟨S3000000, .f32⟩
  | 4 => ⟨S65536, .i32⟩
  | 5 => ⟨S262144, .i32⟩
  | 6 => ⟨S2049, .i32⟩
  | 7 => ⟨S262144, .f32⟩
  | 8 => ⟨S2048x96, .f32⟩
  | 9 => ⟨S65536x96, .i32⟩
  | 10 => ⟨S262144, .i32⟩
  | 11 => ⟨S1x262144, .i32⟩
  | 12 => ⟨S2049x1, .i32⟩
  | 13 => ⟨S2049x262144, .i32⟩
  | 14 => ⟨S2049x262144, .i32⟩
  | 15 => ⟨S2049x262144, .i1⟩
  | 16 => ⟨S2049x262144, .i32⟩
  | 17 => ⟨S_, .i32⟩
  | 18 => ⟨S262144, .i32⟩
  | 19 => ⟨S_, .i32⟩
  | 20 => ⟨S262144, .i32⟩
  | 21 => ⟨S262144, .i32⟩
  | 22 => ⟨S262144x1, .f32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S262144x1, .i32⟩
  | 31 => ⟨S262144x96, .f32⟩
  | 32 => ⟨S262144x96, .f32⟩
  | 33 => ⟨S262144x96, .f32⟩
  | 34 => ⟨S_, .f32⟩
  | 35 => ⟨S65536x96, .f32⟩
  | 36 => ⟨S262144x1, .i32⟩
  | 37 => ⟨S65536x96, .f32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S65536x1, .i32⟩
  | 46 => ⟨S65536x96, .i8⟩
  | 47 => ⟨S_, .i32⟩
  | 48 => ⟨S65536, .i32⟩
  | 49 => ⟨S65536, .i1⟩
  | 50 => ⟨S_, .i32⟩
  | 51 => ⟨S65536, .i32⟩
  | 52 => ⟨S65536, .i32⟩
  | 53 => ⟨S65536, .i32⟩
  | 54 => ⟨S65536x1, .i32⟩
  | 55 => ⟨S65536, .f32⟩
  | 56 => ⟨S_, .i32⟩
  | 57 => ⟨S65536, .i32⟩
  | 58 => ⟨S65536, .i1⟩
  | 59 => ⟨S_, .i32⟩
  | 60 => ⟨S65536, .i32⟩
  | 61 => ⟨S65536, .i32⟩
  | 62 => ⟨S65536, .i32⟩
  | 63 => ⟨S65536x1, .i32⟩
  | 64 => ⟨S65536, .f32⟩
  | 65 => ⟨S_, .i32⟩
  | 66 => ⟨S65536, .i32⟩
  | 67 => ⟨S65536, .i1⟩
  | 68 => ⟨S_, .i32⟩
  | 69 => ⟨S65536, .i32⟩
  | 70 => ⟨S65536, .i32⟩
  | 71 => ⟨S65536, .i32⟩
  | 72 => ⟨S65536x1, .i32⟩
  | 73 => ⟨S65536, .f32⟩
  | 74 => ⟨S65536x96, .i32⟩
  | 75 => ⟨S65536x96, .f32⟩
  | 76 => ⟨S65536x1, .f32⟩
  | 77 => ⟨S65536x96, .f32⟩
  | 78 => ⟨S65536x96, .f32⟩
  | 79 => ⟨S65536x1, .f32⟩
  | 80 => ⟨S65536x96, .f32⟩
  | 81 => ⟨S65536x96, .f32⟩
  | 82 => ⟨S65536x96, .f32⟩
  | 83 => ⟨S_, .f32⟩
  | 84 => ⟨S65536, .f32⟩
  | 85 => ⟨S_, .f32⟩
  | 86 => ⟨S65536, .f32⟩
  | 87 => ⟨S65536, .f32⟩
  | 88 => ⟨S65536, .f32⟩
  | 89 => ⟨S65536, .f32⟩
  | 90 => ⟨S_, .f32⟩
  | 91 => ⟨S65536, .f32⟩
  | 92 => ⟨S65536, .f32⟩
  | 93 => ⟨S_, .f32⟩
  | 94 => ⟨S65536, .f32⟩
  | 95 => ⟨S65536, .f32⟩
  | 96 => ⟨S65536x1, .f32⟩
  | 97 => ⟨S65536x96, .f32⟩
  | 98 => ⟨S65536x96, .f32⟩
  | 99 => ⟨S65536x96, .f32⟩
  | 100 => ⟨S_, .f32⟩
  | 101 => ⟨S65536, .f32⟩
  | 102 => ⟨S_, .f32⟩
  | 103 => ⟨S65536, .f32⟩
  | 104 => ⟨S65536, .f32⟩
  | 105 => ⟨S_, .f32⟩
  | 106 => ⟨S65536, .f32⟩
  | 107 => ⟨S65536, .f32⟩
  | 108 => ⟨S_, .f32⟩
  | 109 => ⟨S65536, .f32⟩
  | 110 => ⟨S65536, .f32⟩
  | 111 => ⟨S_, .f32⟩
  | 112 => ⟨S65536, .f32⟩
  | 113 => ⟨S65536, .f32⟩
  | 114 => ⟨S65536x1, .f32⟩
  | 115 => ⟨S65536x96, .f32⟩
  | 116 => ⟨S65536x96, .f32⟩
  | 117 => ⟨S65536x1, .f32⟩
  | 118 => ⟨S65536x96, .f32⟩
  | 119 => ⟨S65536x96, .f32⟩
  | 120 => ⟨S_, .i32⟩
  | 121 => ⟨S65536x96, .i32⟩
  | 122 => ⟨S65536x96, .i32⟩
  | 123 => ⟨S65536x96, .f32⟩
  | 124 => ⟨S_, .f32⟩
  | 125 => ⟨S65536x96, .f32⟩
  | 126 => ⟨S65536x96, .f32⟩
  | 127 => ⟨S65536x96, .f32⟩
  | _ => ⟨S3000000x96, .i8⟩

abbrev hbmTy0_1 (i : Nat) : BufTy := match i % 128 with
  | 0 => ⟨S65536x96, .f32⟩
  | 1 => ⟨S_, .f32⟩
  | 2 => ⟨S_, .f32⟩
  | 3 => ⟨S_, .f32⟩
  | 4 => ⟨S65536x96, .f32⟩
  | 5 => ⟨S65536x96, .f32⟩
  | 6 => ⟨S_, .f32⟩
  | 7 => ⟨S65536x96, .f32⟩
  | 8 => ⟨S65536x96, .f32⟩
  | 9 => ⟨S65536x96, .i32⟩
  | 10 => ⟨S65536x96, .i8⟩
  | 11 => ⟨S65536x96, .i8⟩
  | 12 => ⟨S65536, .f32⟩
  | 13 => ⟨S65536, .f32⟩
  | _ => ⟨S3000000x96, .i8⟩

abbrev hbmTy (i : Nat) : BufTy := match i / 128 with
  | 0 => hbmTy0_0 i
  | 1 => hbmTy0_1 i
  | _ => ⟨S3000000x96, .i8⟩

abbrev bufTy : (tb : Table) → Fin (tcTables nBuf tb) → BufTy
  | .hbm, ⟨i, _⟩ => hbmTy i
  | _, _ => ⟨S3000000x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_cst_17 : Ref sig .tc := ⟨.hbm, 108, rfl⟩
abbrev main_v72 : Ref sig .tc := ⟨.hbm, 109, rfl⟩
abbrev main_v73 : Ref sig .tc := ⟨.hbm, 110, rfl⟩
abbrev main_cst_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_cst_22 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92_0 : Ref sig .tc := ⟨.hbm, 139, rfl⟩
abbrev main_v92_1 : Ref sig .tc := ⟨.hbm, 140, rfl⟩
abbrev main_v92_2 : Ref sig .tc := ⟨.hbm, 141, rfl⟩

abbrev nD : Nat := 1
abbrev τ : Topo := Topo.v7x

variable {F : FTy → Type} [FloatOps F]
-- ==== Proof.Row.lean ====
module

public import Idealize.ShloMosaic.Lib.Pointwise

@[expose] public section

/-!
# One row of the table

What one step computes for one touched row, over the extended reals: the row has 96 gradient entries `g`,
an optimizer state `mom`, 96 stored codes `c` (bytes), a stored scale `sc` and a stored bias `bi`, and 96 random words `r`.
-/

noncomputable section

namespace Cert.Row

open Idealize.ShloMosaic

/-- The new optimizer state: the old one plus the mean of the squared gradient (the sum over the word of `96.0`). -/
def state (g : Fin 96 → EReal) (mom : EReal) : EReal :=
  mom + Ideal.div (∑ x, g x * g x) (Ideal.ofBits FTy.f32 1119879168#32)

/-- The step length: the learning rate over the root of the new state plus a small constant. -/
def step (g : Fin 96 → EReal) (mom : EReal) : EReal :=
  Ideal.div (Ideal.ofBits FTy.f32 1017370378#32) (Ideal.sqrt (state g mom) + Ideal.ofBits FTy.f32 841731191#32)

/-- A stored code read back: the byte, unsigned, times the stored scale, plus the stored bias. -/
def stored (c : BitVec 8) (sc bi : EReal) : EReal := ((c.toNat : ℝ) : EReal) * sc + bi

/-- Byte number `k` of 24 words laid end to end, four bytes to a word, the lowest first. -/
def byte (w : Fin 24 → BitVec 32) (k : Fin 96) : BitVec 8 := (w ⟨k.val / 4, by omega⟩).extractLsb' (8 * (k.val % 4)) 8

/-- The updated weight number `k`: the stored weight minus the step length times the gradient. -/
def weight (g : Fin 96 → EReal) (mom : EReal) (c : Fin 96 → BitVec 8) (sc bi : EReal) (k : Fin 96) : EReal :=
  stored (c k) sc bi - step g mom * g k

/-- The least of the 96 weights. -/
def low (w : Fin 96 → EReal) : EReal := Finset.fold min (Ideal.ofBits FTy.f32 2139095040#32) w Finset.univ

/-- The greatest weight minus the least one. -/
def range (w : Fin 96 → EReal) : EReal :=
  Finset.fold max (Ideal.ofBits FTy.f32 4286578688#32) w Finset.univ - low w

/-- The new scale: the range over the word of `255.0`. -/
def scale (w : Fin 96 → EReal) : EReal := Ideal.div (range w) (Ideal.ofBits FTy.f32 1132396544#32)

/-- The random offset in `[0, 1)` of a random word: its upper 24 bits, unsigned, times the word of `2⁻²⁴`. -/
def offset (r : BitVec 32) : EReal := (((r >>> 8).toNat : ℝ) : EReal) * Ideal.ofBits FTy.f32 864026624#32

/-- The new code number `k`: the weight's place in the range, stretched to `255`, plus the random offset, rounded
    down, kept between `0` and `255`, as a byte. -/
def code (w : Fin 96 → EReal) (r : Fin 96 → BitVec 32) (k : Fin 96) : BitVec 8 :=
  BitVec.setWidth 8 (FloatOps.fptosi (F := Ideal) (φ := FTy.f32) 32
    (min (Ideal.ofBits FTy.f32 1132396544#32)
      (max 0 (Ideal.liftRound Int.floor
        ((w k - low w) * Ideal.div (Ideal.ofBits FTy.f32 1132396544#32) (range w + Ideal.ofBits FTy.f32 841731191#32)
          + offset (r k))))))

/-- A byte widened with zeros and read as a signed integer is the byte read unsigned. -/
theorem sitofp_byte (c : BitVec 8) :
    FloatOps.sitofp (F := Ideal) FTy.f32 (BitVec.setWidth 32 c) = ((c.toNat : ℝ) : EReal) := by
  show (((BitVec.setWidth 32 c).toInt : ℝ) : EReal) = _
  have e : (BitVec.setWidth 32 c).toInt = (c.toNat : ℤ) := by
    have := c.isLt
    rw [BitVec.toInt_eq_toNat_of_lt (by rw [BitVec.toNat_setWidth]; omega), BitVec.toNat_setWidth, Nat.mod_eq_of_lt (by omega)]
  rw [e, Int.cast_natCast]

/-- A shift by 8 of a 32-bit word, on any unit. -/
theorem shrui_eight (u : ArithUnit) (r : BitVec 32) : IntOp.shrui u r 8#32 = r >>> 8 := rfl

/-- A word shifted right by 8 is below `2²⁴`, so it reads the same signed and unsigned. -/
theorem sitofp_shifted (r : BitVec 32) :
    FloatOps.sitofp (F := Ideal) FTy.f32 (r >>> 8) = (((r >>> 8).toNat : ℝ) : EReal) := by
  show (((r >>> 8).toInt : ℝ) : EReal) = _
  have e : (r >>> 8).toInt = ((r >>> 8).toNat : ℤ) := by
    have := r.isLt
    exact BitVec.toInt_eq_toNat_of_lt (by rw [BitVec.toNat_ushiftRight, Nat.shiftRight_eq_div_pow]; omega)
  rw [e, Int.cast_natCast]

end Cert.Row

end
-- ==== Proof.Chunk.lean ====
module

public import proofs.«01_k».proof.Proof.Gen.KernelIdeal.Frame
public import proofs.«01_k».proof.Proof.Row
public import Idealize.ShloMosaic.Lib.BitcastConvert
public import Idealize.ShloMosaic.Lib.BitcastFour

@[expose] public section

/-!
# One grid point of the kernel

The body works on a block of 2048 columns in sixteen chunks of 128. Every chunk computes the same functions of its
own loads; they are named here once, and the four output blocks are shown to be their sixteen pieces. Then each
output block is read at an index: it is `Cert.Row` of the column.
-/

set_option maxRecDepth 16384

noncomputable section

namespace Cert.KernelIdeal.Chunk

open Idealize.ShloMosaic Idealize.ShloMosaic.TcCoe Idealize.SL.Sem Cert.KernelIdeal Cert.KernelIdeal.Gen

variable {F : FTy → Type} [FloatOps F]

/-- A chunk's new codes. -/
abbrev codesP (g : Vec F S96x128 .f32) (mom : Vec F S1x128 .f32) (cd : Vec F S24x128 .i32) (sc bi : Vec F S1x128 .f32)
    (rd : Vec F S96x128 .i32) : Vec F S96x128 .i8 :=
  k0_pay8 (k0_pay4 g mom cd sc bi) (k0_pay5 g mom cd sc bi) (k0_pay6 g mom cd sc bi) rd

/-- The pieces of the block of new codes, the last chunk first. -/
theorem out6 (x0 : Vec F S96x2048 .f32) (x1 : Vec F S24x2048 .i32) (x2 x3 x4 : Vec F S16x128 .f32) (x5 : Vec F S96x2048 .i32) :
    out0_6 x0 x1 x2 x3 x4 x5 = View.canon [
      ⟨r0_45, codesP (View.ld x0 r0_45) (View.ld x4 r0_46) (View.ld x1 r0_47) (View.ld x2 r0_46) (View.ld x3 r0_46) (View.ld x5 r0_45)⟩,
      ⟨r0_42, codesP (View.ld x0 r0_42) (View.ld x4 r0_43) (View.ld x1 r0_44) (View.ld x2 r0_43) (View.ld x3 r0_43) (View.ld x5 r0_42)⟩,
      ⟨r0_39, codesP (View.ld x0 r0_39) (View.ld x4 r0_40) (View.ld x1 r0_41) (View.ld x2 r0_40) (View.ld x3 r0_40) (View.ld x5 r0_39)⟩,
      ⟨r0_36, codesP (View.ld x0 r0_36) (View.ld x4 r0_37) (View.ld x1 r0_38) (View.ld x2 r0_37) (View.ld x3 r0_37) (View.ld x5 r0_36)⟩,
      ⟨r0_33, codesP (View.ld x0 r0_33) (View.ld x4 r0_34) (View.ld x1 r0_35) (View.ld x2 r0_34) (View.ld x3 r0_34) (View.ld x5 r0_33)⟩,
      ⟨r0_30, codesP (View.ld x0 r0_30) (View.ld x4 r0_31) (View.ld x1 r0_32) (View.ld x2 r0_31) (View.ld x3 r0_31) (View.ld x5 r0_30)⟩,
      ⟨r0_27, codesP (View.ld x0 r0_27) (View.ld x4 r0_28) (View.ld x1 r0_29) (View.ld x2 r0_28) (View.ld x3 r0_28) (View.ld x5 r0_27)⟩,
      ⟨r0_24, codesP (View.ld x0 r0_24) (View.ld x4 r0_25) (View.ld x1 r0_26) (View.ld x2 r0_25) (View.ld x3 r0_25) (View.ld x5 r0_24)⟩,
      ⟨r0_21, codesP (View.ld x0 r0_21) (View.ld x4 r0_22) (View.ld x1 r0_23) (View.ld x2 r0_22) (View.ld x3 r0_22) (View.ld x5 r0_21)⟩,
      ⟨r0_18, codesP (View.ld x0 r0_18) (View.ld x4 r0_19) (View.ld x1 r0_20) (View.ld x2 r0_19) (View.ld x3 r0_19) (View.ld x5 r0_18)⟩,
      ⟨r0_15, codesP (View.ld x0 r0_15) (View.ld x4 r0_16) (View.ld x1 r0_17) (View.ld x2 r0_16) (View.ld x3 r0_16) (View.ld x5 r0_15)⟩,
      ⟨r0_12, codesP (View.ld x0 r0_12) (View.ld x4 r0_13) (View.ld x1 r0_14) (View.ld x2 r0_13) (View.ld x3 r0_13) (View.ld x5 r0_12)⟩,
      ⟨r0_9, codesP (View.ld x0 r0_9) (View.ld x4 r0_10) (View.ld x1 r0_11) (View.ld x2 r0_10) (View.ld x3 r0_10) (View.ld x5 r0_9)⟩,
      ⟨r0_6, codesP (View.ld x0 r0_6) (View.ld x4 r0_7) (View.ld x1 r0_8) (View.ld x2 r0_7) (View.ld x3 r0_7) (View.ld x5 r0_6)⟩,
      ⟨r0_3, codesP (View.ld x0 r0_3) (View.ld x4 r0_4) (View.ld x1 r0_5) (View.ld x2 r0_4) (View.ld x3 r0_4) (View.ld x5 r0_3)⟩,
      ⟨r0_0, codesP (View.ld x0 r0_0) (View.ld x4 r0_1) (View.ld x1 r0_2) (View.ld x2 r0_1) (View.ld x3 r0_1) (View.ld x5 r0_0)⟩] := rfl

/-- The pieces of the block of new scales, the last chunk first. -/
theorem out7 (x0 : Vec F S96x2048 .f32) (x1 : Vec F S24x2048 .i32) (x2 x3 x4 : Vec F S16x128 .f32) (x5 : Vec F S96x2048 .i32) :
    out0_7 x0 x1 x2 x3 x4 x5 = View.canon [
      ⟨r0_46, k0_pay7 (View.ld x0 r0_45) (View.ld x4 r0_46) (View.ld x1 r0_47) (View.ld x2 r0_46) (View.ld x3 r0_46)⟩,
      ⟨r0_43, k0_pay7 (View.ld x0 r0_42) (View.ld x4 r0_43) (View.ld x1 r0_44) (View.ld x2 r0_43) (View.ld x3 r0_43)⟩,
      ⟨r0_40, k0_pay7 (View.ld x0 r0_39) (View.ld x4 r0_40) (View.ld x1 r0_41) (View.ld x2 r0_40) (View.ld x3 r0_40)⟩,
      ⟨r0_37, k0_pay7 (View.ld x0 r0_36) (View.ld x4 r0_37) (View.ld x1 r0_38) (View.ld x2 r0_37) (View.ld x3 r0_37)⟩,
      ⟨r0_34, k0_pay7 (View.ld x0 r0_33) (View.ld x4 r0_34) (View.ld x1 r0_35) (View.ld x2 r0_34) (View.ld x3 r0_34)⟩,
      ⟨r0_31, k0_pay7 (View.ld x0 r0_30) (View.ld x4 r0_31) (View.ld x1 r0_32) (View.ld x2 r0_31) (View.ld x3 r0_31)⟩,
      ⟨r0_28, k0_pay7 (View.ld x0 r0_27) (View.ld x4 r0_28) (View.ld x1 r0_29) (View.ld x2 r0_28) (View.ld x3 r0_28)⟩,
      ⟨r0_25, k0_pay7 (View.ld x0 r0_24) (View.ld x4 r0_25) (View.ld x1 r0_26) (View.ld x2 r0_25) (View.ld x3 r0_25)⟩,
      ⟨r0_22, k0_pay7 (View.ld x0 r0_21) (View.ld x4 r0_22) (View.ld x1 r0_23) (View.ld x2 r0_22) (View.ld x3 r0_22)⟩,
      ⟨r0_19, k0_pay7 (View.ld x0 r0_18) (View.ld x4 r0_19) (View.ld x1 r0_20) (View.ld x2 r0_19) (View.ld x3 r0_19)⟩,
      ⟨r0_16, k0_pay7 (View.ld x0 r0_15) (View.ld x4 r0_16) (View.ld x1 r0_17) (View.ld x2 r0_16) (View.ld x3 r0_16)⟩,
      ⟨r0_13, k0_pay7 (View.ld x0 r0_12) (View.ld x4 r0_13) (View.ld x1 r0_14) (View.ld x2 r0_13) (View.ld x3 r0_13)⟩,
      ⟨r0_10, k0_pay7 (View.ld x0 r0_9) (View.ld x4 r0_10) (View.ld x1 r0_11) (View.ld x2 r0_10) (View.ld x3 r0_10)⟩,
      ⟨r0_7, k0_pay7 (View.ld x0 r0_6) (View.ld x4 r0_7) (View.ld x1 r0_8) (View.ld x2 r0_7) (View.ld x3 r0_7)⟩,
      ⟨r0_4, k0_pay7 (View.ld x0 r0_3) (View.ld x4 r0_4) (View.ld x1 r0_5) (View.ld x2 r0_4) (View.ld x3 r0_4)⟩,
      ⟨r0_1, k0_pay7 (View.ld x0 r0_0) (View.ld x4 r0_1) (View.ld x1 r0_2) (View.ld x2 r0_1) (View.ld x3 r0_1)⟩] := rfl

/-- The pieces of the block of new biases, the last chunk first. -/
theorem out8 (x0 : Vec F S96x2048 .f32) (x1 : Vec F S24x2048 .i32) (x2 x3 x4 : Vec F S16x128 .f32) (x5 : Vec F S96x2048 .i32) :
    out0_8 x0 x1 x2 x3 x4 x5 = View.canon [
      ⟨r0_46, k0_pay5 (View.ld x0 r0_45) (View.ld x4 r0_46) (View.ld x1 r0_47) (View.ld x2 r0_46) (View.ld x3 r0_46)⟩,
      ⟨r0_43, k0_pay5 (View.ld x0 r0_42) (View.ld x4 r0_43) (View.ld x1 r0_44) (View.ld x2 r0_43) (View.ld x3 r0_43)⟩,
      ⟨r0_40, k0_pay5 (View.ld x0 r0_39) (View.ld x4 r0_40) (View.ld x1 r0_41) (View.ld x2 r0_40) (View.ld x3 r0_40)⟩,
      ⟨r0_37, k0_pay5 (View.ld x0 r0_36) (View.ld x4 r0_37) (View.ld x1 r0_38) (View.ld x2 r0_37) (View.ld x3 r0_37)⟩,
      ⟨r0_34, k0_pay5 (View.ld x0 r0_33) (View.ld x4 r0_34) (View.ld x1 r0_35) (View.ld x2 r0_34) (View.ld x3 r0_34)⟩,
      ⟨r0_31, k0_pay5 (View.ld x0 r0_30) (View.ld x4 r0_31) (View.ld x1 r0_32) (View.ld x2 r0_31) (View.ld x3 r0_31)⟩,
      ⟨r0_28, k0_pay5 (View.ld x0 r0_27) (View.ld x4 r0_28) (View.ld x1 r0_29) (View.ld x2 r0_28) (View.ld x3 r0_28)⟩,
      ⟨r0_25, k0_pay5 (View.ld x0 r0_24) (View.ld x4 r0_25) (View.ld x1 r0_26) (View.ld x2 r0_25) (View.ld x3 r0_25)⟩,
      ⟨r0_22, k0_pay5 (View.ld x0 r0_21) (View.ld x4 r0_22) (View.ld x1 r0_23) (View.ld x2 r0_22) (View.ld x3 r0_22)⟩,
      ⟨r0_19, k0_pay5 (View.ld x0 r0_18) (View.ld x4 r0_19) (View.ld x1 r0_20) (View.ld x2 r0_19) (View.ld x3 r0_19)⟩,
      ⟨r0_16, k0_pay5 (View.ld x0 r0_15) (View.ld x4 r0_16) (View.ld x1 r0_17) (View.ld x2 r0_16) (View.ld x3 r0_16)⟩,
      ⟨r0_13, k0_pay5 (View.ld x0 r0_12) (View.ld x4 r0_13) (View.ld x1 r0_14) (View.ld x2 r0_13) (View.ld x3 r0_13)⟩,
      ⟨r0_10, k0_pay5 (View.ld x0 r0_9) (View.ld x4 r0_10) (View.ld x1 r0_11) (View.ld x2 r0_10) (View.ld x3 r0_10)⟩,
      ⟨r0_7, k0_pay5 (View.ld x0 r0_6) (View.ld x4 r0_7) (View.ld x1 r0_8) (View.ld x2 r0_7) (View.ld x3 r0_7)⟩,
      ⟨r0_4, k0_pay5 (View.ld x0 r0_3) (View.ld x4 r0_4) (View.ld x1 r0_5) (View.ld x2 r0_4) (View.ld x3 r0_4)⟩,
      ⟨r0_1, k0_pay5 (View.ld x0 r0_0) (View.ld x4 r0_1) (View.ld x1 r0_2) (View.ld x2 r0_1) (View.ld x3 r0_1)⟩] := rfl

/-- The pieces of the block of new states, the last chunk first. -/
theorem out9 (x0 : Vec F S96x2048 .f32) (x1 : Vec F S24x2048 .i32) (x2 x3 x4 : Vec F S16x128 .f32) (x5 : Vec F S96x2048 .i32) :
    out0_9 x0 x1 x2 x3 x4 x5 = View.canon [
      ⟨r0_46, k0_pay3 (View.ld x0 r0_45) (View.ld x4 r0_46)⟩,
      ⟨r0_43, k0_pay3 (View.ld x0 r0_42) (View.ld x4 r0_43)⟩,
      ⟨r0_40, k0_pay3 (View.ld x0 r0_39) (View.ld x4 r0_40)⟩,
      ⟨r0_37, k0_pay3 (View.ld x0 r0_36) (View.ld x4 r0_37)⟩,
      ⟨r0_34, k0_pay3 (View.ld x0 r0_33) (View.ld x4 r0_34)⟩,
      ⟨r0_31, k0_pay3 (View.ld x0 r0_30) (View.ld x4 r0_31)⟩,
      ⟨r0_28, k0_pay3 (View.ld x0 r0_27) (View.ld x4 r0_28)⟩,
      ⟨r0_25, k0_pay3 (View.ld x0 r0_24) (View.ld x4 r0_25)⟩,
      ⟨r0_22, k0_pay3 (View.ld x0 r0_21) (View.ld x4 r0_22)⟩,
      ⟨r0_19, k0_pay3 (View.ld x0 r0_18) (View.ld x4 r0_19)⟩,
      ⟨r0_16, k0_pay3 (View.ld x0 r0_15) (View.ld x4 r0_16)⟩,
      ⟨r0_13, k0_pay3 (View.ld x0 r0_12) (View.ld x4 r0_13)⟩,
      ⟨r0_10, k0_pay3 (View.ld x0 r0_9) (View.ld x4 r0_10)⟩,
      ⟨r0_7, k0_pay3 (View.ld x0 r0_6) (View.ld x4 r0_7)⟩,
      ⟨r0_4, k0_pay3 (View.ld x0 r0_3) (View.ld x4 r0_4)⟩,
      ⟨r0_1, k0_pay3 (View.ld x0 r0_0) (View.ld x4 r0_1)⟩] := rfl

/-! ## A chunk at an index -/

/-- The word-to-byte reinterpretation of a chunk of codes: row `k` of the bytes is byte `k % 4` of word row `k / 4`. -/
theorem bytes_apply (cd : S24x128.Idx → BitVec 32) (k : Fin 96) (l : Fin 128) :
    bitcast S96x128 8 cd bitcasts_S24x128_w32_S96x128_w8 (ix2 k l) = Row.byte (fun w => cd (ix2 w l)) k := by
  apply BitVec.eq_of_getLsbD_eq
  intro q hq
  rw [bitcast_getLsbD _ _ _ q hq (by decide)]
  have er : S96x128.row (ix2 k l) = k.val := rfl
  have ed : (S96x128.row (ix2 k l) * 8 + q) / 32 = k.val / 4 := by rw [er]; omega
  have em : (S96x128.row (ix2 k l) * 8 + q) % 32 = 8 * (k.val % 4) + q := by rw [er]; omega
  rw [em, Row.byte, BitVec.getLsbD_extractLsb', decide_eq_true hq, Bool.true_and]
  congr 2
  funext c
  match c with
  | ⟨0, _⟩ => exact Fin.ext ((Shape.Bitcasts.srcIdx_row _ _ _ _ ⟨0, Nat.zero_lt_two⟩ rfl).trans ed)
  | ⟨1, _⟩ => exact Fin.ext (Shape.Bitcasts.srcIdx_other _ _ _ _ ⟨1, Nat.one_lt_two⟩ (by show ¬ 1 + 2 = 2; omega))

section Ideal

variable (g : Vec Ideal S96x128 .f32) (mom : Vec Ideal S1x128 .f32) (cd : Vec Ideal S24x128 .i32)
  (sc bi : Vec Ideal S1x128 .f32) (rd : Vec Ideal S96x128 .i32)

/-- The new weights of the chunk's column `l`. -/
abbrev w (l : Fin 128) : Fin 96 → EReal :=
  Row.weight (fun x => g (ix2 x l)) (mom (ix2 0 l)) (Row.byte fun x => cd (ix2 x l)) (sc (ix2 0 l)) (bi (ix2 0 l))

/-- The chunk's new states, a column at a time. -/
theorem state_apply (l : Fin 128) : k0_pay3 g mom (ix2 0 l) = Row.state (fun x => g (ix2 x l)) (mom (ix2 0 l)) := by
  pointwise [k0_pay3, k0_pay2]
  rfl

/-- The chunk's new weights at an index. -/
theorem weight_apply (k : Fin 96) (l : Fin 128) : k0_pay4 g mom cd sc bi (ix2 k l) = w g mom cd sc bi l k := by
  pointwise [k0_pay4, k0_pay2]
  rw [state_apply, bytes_apply, Row.sitofp_byte]
  rfl

/-- The chunk's new biases, a column at a time. -/
theorem low_apply (l : Fin 128) : k0_pay5 g mom cd sc bi (ix2 0 l) = Row.low (w g mom cd sc bi l) := by
  pointwise [k0_pay5]
  simp only [weight_apply]
  rfl

/-- The chunk's ranges, a column at a time. -/
theorem range_apply (l : Fin 128) : k0_pay6 g mom cd sc bi (ix2 0 l) = Row.range (w g mom cd sc bi l) := by
  pointwise [k0_pay6]
  simp only [weight_apply, low_apply]
  rfl

/-- The chunk's new scales, a column at a time. -/
theorem scale_apply (l : Fin 128) : k0_pay7 g mom cd sc bi (ix2 0 l) = Row.scale (w g mom cd sc bi l) := by
  pointwise [k0_pay7]
  rw [range_apply]
  rfl

/-- The chunk's new codes at an index. -/
theorem codes_apply (k : Fin 96) (l : Fin 128) :
    codesP g mom cd sc bi rd (ix2 k l) = Row.code (w g mom cd sc bi l) (fun x => rd (ix2 x l)) k := by
  unfold codesP
  pointwise [k0_pay8]
  rw [weight_apply, low_apply, range_apply, Row.shrui_eight, Row.sitofp_shifted]
  rfl

end Ideal

end Cert.KernelIdeal.Chunk

end
-- ==== Proof.Block.lean ====
module

public import proofs.«01_k».proof.Proof.Chunk
public import Idealize.ShloMosaic.Lib.Pipeline.ValueKit.Geometry
public import Idealize.ShloMosaic.Lib.Pipeline.Value

@[expose] public section

/-!
# The four output blocks of a grid point, read at an index

From the six input blocks `x0` (gradient, 96 by 2048), `x1` (old codes, four to a word), `x2` (old scale), `x3` (old
bias), `x4` (old state) — the last three 16 by 128, column `n` at `(n / 128, n % 128)` — and `x5` (random words).
-/

set_option maxRecDepth 16384

noncomputable section

namespace Cert.KernelIdeal.Block

open Idealize.ShloMosaic Idealize.ShloMosaic.TcCoe Idealize.SL.Sem Cert.KernelIdeal Cert.KernelIdeal.Gen

/-- Where column `n` of a block lies in a 16 by 128 block. -/
abbrev at2 (n : Fin 2048) : S16x128.Idx := ix2 ⟨n.val / 128, by omega⟩ ⟨n.val % 128, by omega⟩

/-- The column of an index of a 16 by 128 block. -/
abbrev colOf (j : Fin 16) (l : Fin 128) : Fin 2048 := ⟨128 * j.val + l.val, by omega⟩

theorem at2_colOf (j : Fin 16) (l : Fin 128) : at2 (colOf j l) = ix2 j l := by
  unfold at2 colOf
  congr 1 <;> apply Fin.ext <;> simp only <;> omega

/-- An index of a shape of one row is row `0` and its column. -/
theorem eq_row (x : S1x128.Idx) : x = ix2 (n0 := 1) (n1 := 128) 0 (x 1) :=
  (eq_ix2 (n0 := 1) (n1 := 128) x).trans (congrArg (fun a => ix2 (n0 := 1) (n1 := 128) a (x 1)) (Subsingleton.elim _ _))

section Loads

variable {Val : EltTy → Type} {e : EltTy}

/-- A unit-stride rectangle of a rank-2 shape places `(a, b)` at the offsets plus `(a, b)`. -/
theorem emb_ix2 {R N r n o0 o1 : Nat} (inb : ∀ a, (![o0, o1] : Fin 2 → Nat) a + (⟨2, ![r, n]⟩ : Shape).size a ≤ (⟨2, ![R, N]⟩ : Shape).size a)
    (a : Fin r) (b : Fin n) (h0 : o0 + a.val < R) (h1 : o1 + b.val < N) :
    (Rect.unit (s := ⟨2, ![R, N]⟩) ![o0, o1] (⟨2, ![r, n]⟩ : Shape).size inb).emb (ix2 a b) = ix2 ⟨o0 + a.val, h0⟩ ⟨o1 + b.val, h1⟩ := by
  funext c
  match c with
  | ⟨0, _⟩ => exact Fin.ext (ValueKit.rect_emb_unit_val _ _ _ _ _)
  | ⟨1, _⟩ => exact Fin.ext (ValueKit.rect_emb_unit_val _ _ _ _ _)

/-- A load of 128 columns of all `R` rows from column `o`, at an index. -/
theorem ld_cols {R o : Nat} (X : (⟨2, ![R, 2048]⟩ : Shape).Idx → Val e)
    (inb : ∀ a, (![0, o] : Fin 2 → Nat) a + (⟨2, ![R, 128]⟩ : Shape).size a ≤ (⟨2, ![R, 2048]⟩ : Shape).size a)
    (j : Fin 16) (ho : o = 128 * j.val) (x : Fin R) (l : Fin 128) :
    View.ld X (Rect.unit (s := ⟨2, ![R, 2048]⟩) ![0, o] (⟨2, ![R, 128]⟩ : Shape).size inb) (ix2 x l) = X (ix2 x (colOf j l)) := by
  subst ho
  show X ((Rect.unit _ _ _).emb _) = _
  rw [emb_ix2 inb x l (by omega) (by omega)]
  congr 2
  exact Fin.ext (Nat.zero_add _)

/-- A load of row `o` of a 16 by 128 block, at an index. -/
theorem ld_row {o : Nat} (X : S16x128.Idx → Val e)
    (inb : ∀ a, (![o, 0] : Fin 2 → Nat) a + S1x128.size a ≤ S16x128.size a)
    (j : Fin 16) (ho : o = j.val) (l : Fin 128) :
    View.ld X (Rect.unit (s := S16x128) ![o, 0] S1x128.size inb) (ix2 0 l) = X (at2 (colOf j l)) := by
  subst ho
  rw [at2_colOf]
  show X ((Rect.unit _ _ _).emb _) = _
  rw [emb_ix2 inb 0 l (by simp) (by omega)]
  congr 2
  exact Fin.ext (Nat.zero_add _)

end Loads

variable (x0 : Vec Ideal S96x2048 .f32) (x1 : Vec Ideal S24x2048 .i32) (x2 x3 x4 : Vec Ideal S16x128 .f32)
  (x5 : Vec Ideal S96x2048 .i32)

/-- The new weights of column `n` of the block. -/
def w (n : Fin 2048) : Fin 96 → EReal :=
  Row.weight (fun x => x0 (ix2 x n)) (x4 (at2 n)) (Row.byte fun x => x1 (ix2 x n)) (x2 (at2 n)) (x3 (at2 n))

/-- The block of new codes. -/
def codes (y : S96x2048.Idx) : BitVec 8 := Row.code (w x0 x1 x2 x3 x4 (y 1)) (fun x => x5 (ix2 x (y 1))) (y 0)
/-- The block of new scales. -/
def scales (y : S16x128.Idx) : EReal := Row.scale (w x0 x1 x2 x3 x4 (colOf (y 0) (y 1)))
/-- The block of new biases. -/
def lows (y : S16x128.Idx) : EReal := Row.low (w x0 x1 x2 x3 x4 (colOf (y 0) (y 1)))
/-- The block of new states. -/
def states (y : S16x128.Idx) : EReal :=
  Row.state (fun x => x0 (ix2 x (colOf (y 0) (y 1)))) (x4 (at2 (colOf (y 0) (y 1))))

section Piece

variable {o j' : Nat} (i0 : ∀ a, (![0, o] : Fin 2 → Nat) a + S96x128.size a ≤ S96x2048.size a)
  (i1 : ∀ a, (![0, o] : Fin 2 → Nat) a + S24x128.size a ≤ S24x2048.size a)
  (i2 : ∀ a, (![j', 0] : Fin 2 → Nat) a + S1x128.size a ≤ S16x128.size a)
  (j : Fin 16) (ho : o = 128 * j.val) (hj : j' = j.val)

/-- The rectangle of a chunk in a block of 96 rows, in one of 24, and in a 16 by 128 one. -/
abbrev q0 : Rect S96x2048 := Rect.unit (s := S96x2048) ![0, o] S96x128.size i0
@[inherit_doc q0] abbrev q1 : Rect S24x2048 := Rect.unit (s := S24x2048) ![0, o] S24x128.size i1
@[inherit_doc q0] abbrev q2 : Rect S16x128 := Rect.unit (s := S16x128) ![j', 0] S1x128.size i2

include ho hj

/-- A chunk's weights are its columns' of the block. -/
theorem w_piece (l : Fin 128) :
    Chunk.w (View.ld x0 (q0 i0)) (View.ld x4 (q2 i2)) (View.ld x1 (q1 i1)) (View.ld x2 (q2 i2)) (View.ld x3 (q2 i2)) l
      = w x0 x1 x2 x3 x4 (colOf j l) := by
  have e0 : (fun x => View.ld x0 (q0 i0) (ix2 x l)) = fun x => x0 (ix2 x (colOf j l)) := funext fun x => ld_cols x0 _ j ho x l
  have e1 : (fun x => View.ld x1 (q1 i1) (ix2 x l)) = fun x => x1 (ix2 x (colOf j l)) := funext fun x => ld_cols x1 _ j ho x l
  unfold Chunk.w w
  rw [e0, e1, ld_row x4 i2 j hj, ld_row x2 i2 j hj, ld_row x3 i2 j hj]

theorem codes_piece (x : S96x128.Idx) :
    Chunk.codesP (View.ld x0 (q0 i0)) (View.ld x4 (q2 i2)) (View.ld x1 (q1 i1)) (View.ld x2 (q2 i2)) (View.ld x3 (q2 i2))
      (View.ld x5 (q0 i0)) x = codes x0 x1 x2 x3 x4 x5 ((q0 i0).emb x) := by
  obtain ⟨k, l, rfl⟩ : ∃ k l, x = ix2 k l := ⟨_, _, eq_ix2 x⟩
  have e : (q0 i0).emb (ix2 k l) = ix2 k (colOf j l) := by
    subst ho
    rw [emb_ix2 i0 k l (by omega) (by omega)]
    congr 1
    exact Fin.ext (Nat.zero_add _)
  rw [Chunk.codes_apply, w_piece x0 x1 x2 x3 x4 i0 i1 i2 j ho hj l, e]
  have e5 : (fun x => View.ld x5 (q0 i0) (ix2 x l)) = fun x => x5 (ix2 x (colOf j l)) := funext fun x => ld_cols x5 _ j ho x l
  rw [e5]
  rfl

omit ho in
theorem emb_row (l : Fin 128) : (q2 i2).emb (ix2 0 l) = ix2 j l := by
  subst hj
  rw [emb_ix2 i2 0 l (by simp) (by omega)]
  congr 1
  exact Fin.ext (Nat.zero_add _)

theorem scales_piece (x : S1x128.Idx) :
    k0_pay7 (View.ld x0 (q0 i0)) (View.ld x4 (q2 i2)) (View.ld x1 (q1 i1)) (View.ld x2 (q2 i2)) (View.ld x3 (q2 i2)) x
      = scales x0 x1 x2 x3 x4 ((q2 i2).emb x) := by
  obtain ⟨l, rfl⟩ : ∃ l, x = ix2 0 l := ⟨_, eq_row x⟩
  rw [Chunk.scale_apply, w_piece x0 x1 x2 x3 x4 i0 i1 i2 j ho hj l, emb_row i2 j hj l]
  rfl

theorem lows_piece (x : S1x128.Idx) :
    k0_pay5 (View.ld x0 (q0 i0)) (View.ld x4 (q2 i2)) (View.ld x1 (q1 i1)) (View.ld x2 (q2 i2)) (View.ld x3 (q2 i2)) x
      = lows x0 x1 x2 x3 x4 ((q2 i2).emb x) := by
  obtain ⟨l, rfl⟩ : ∃ l, x = ix2 0 l := ⟨_, eq_row x⟩
  rw [Chunk.low_apply, w_piece x0 x1 x2 x3 x4 i0 i1 i2 j ho hj l, emb_row i2 j hj l]
  rfl

theorem states_piece (x : S1x128.Idx) :
    k0_pay3 (View.ld x0 (q0 i0)) (View.ld x4 (q2 i2)) x = states x0 x4 ((q2 i2).emb x) := by
  obtain ⟨l, rfl⟩ : ∃ l, x = ix2 0 l := ⟨_, eq_row x⟩
  rw [Chunk.state_apply, emb_row i2 j hj l]
  have e0 : (fun x => View.ld x0 (q0 i0) (ix2 x l)) = fun x => x0 (ix2 x (colOf j l)) := funext fun x => ld_cols x0 _ j ho x l
  rw [e0, ld_row x4 i2 j hj]
  rfl

end Piece

/-- The block of new codes at an index. -/
theorem out6_apply (y : S96x2048.Idx) : out0_6 x0 x1 x2 x3 x4 x5 y = codes x0 x1 x2 x3 x4 x5 y := by
  rw [Chunk.out6]
  refine View.canon_apply_of_pieces (codes x0 x1 x2 x3 x4 x5) _ ?_ y (cover0_6 (F := Ideal) _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h (List.not_mem_nil)⟩ <;>
    exact codes_piece x0 x1 x2 x3 x4 x5 _ _ _ ⟨_, by decide⟩ rfl rfl

/-- The block of new scales at an index. -/
theorem out7_apply (y : S16x128.Idx) : out0_7 x0 x1 x2 x3 x4 x5 y = scales x0 x1 x2 x3 x4 y := by
  rw [Chunk.out7]
  refine View.canon_apply_of_pieces (scales x0 x1 x2 x3 x4) _ ?_ y (cover0_7 (F := Ideal) _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h (List.not_mem_nil)⟩ <;>
    exact scales_piece x0 x1 x2 x3 x4 _ _ _ ⟨_, by decide⟩ rfl rfl

/-- The block of new biases at an index. -/
theorem out8_apply (y : S16x128.Idx) : out0_8 x0 x1 x2 x3 x4 x5 y = lows x0 x1 x2 x3 x4 y := by
  rw [Chunk.out8]
  refine View.canon_apply_of_pieces (lows x0 x1 x2 x3 x4) _ ?_ y (cover0_8 (F := Ideal) _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h (List.not_mem_nil)⟩ <;>
    exact lows_piece x0 x1 x2 x3 x4 _ _ _ ⟨_, by decide⟩ rfl rfl

/-- The block of new states at an index. -/
theorem out9_apply (y : S16x128.Idx) : out0_9 x0 x1 x2 x3 x4 x5 y = states x0 x4 y := by
  rw [Chunk.out9]
  refine View.canon_apply_of_pieces (states x0 x4) _ ?_ y (cover0_9 (F := Ideal) _ _ _ _ _ _ _ _ _ _ _ _ _ _ _ _ y)
  simp only [List.forall_mem_cons]
  refine ⟨?_, ?_, ?_, ?_, ?_, ?_, ?_, ?_, ?_, ?_, ?_, ?_, ?_, ?_, ?_, ?_, fun _ h => absurd h (List.not_mem_nil)⟩ <;>
    exact states_piece x0 x4 _ _ ⟨_, by decide⟩ rfl rfl

end Cert.KernelIdeal.Block

end
-- ==== Proof.Array.lean ====
module

public import proofs.«01_k».proof.Proof.Block
public import Idealize.ShloMosaic.Lib.Pipeline.ValueKit

@[expose] public section

/-!
# The kernel's four result arrays after the last grid point

Over the arrays the region is entered with: column `n` of the 96 by 65536 arrays is a row of the table, and its stored
scale, bias and state lie at `(n / 128, n % 128)` of the 512 by 128 arrays. Grid point `t` works on columns `2048 t …`.
-/

set_option maxRecDepth 16384

noncomputable section

namespace Cert.KernelIdeal.Array

open Idealize.ShloMosaic Idealize.ShloMosaic.TcCoe Idealize.SL.Sem Cert.KernelIdeal Cert.KernelIdeal.Gen

/-- Where column `n` lies in a 512 by 128 array. -/
abbrev at2 (n : Fin 65536) : S512x128.Idx := ix2 ⟨n.val / 128, by omega⟩ ⟨n.val % 128, by omega⟩

/-- The column of an index of a 512 by 128 array. -/
abbrev colOf (j : Fin 512) (l : Fin 128) : Fin 65536 := ⟨128 * j.val + l.val, by omega⟩

/-- The new weights of column `n`. -/
def w (A0 : FVec Ideal S96x65536 .f32) (A1 : IVec S24x65536 32) (A2 A3 A4 : FVec Ideal S512x128 .f32) (n : Fin 65536) :
    Fin 96 → EReal :=
  Row.weight (fun x => A0 (ix2 x n)) (A4 (at2 n)) (Row.byte fun x => A1 (ix2 x n)) (A2 (at2 n)) (A3 (at2 n))

variable (A0 : FVec Ideal S96x65536 .f32) (A1 : IVec S24x65536 32) (A2 A3 A4 : FVec Ideal S512x128 .f32) (A5 : IVec S96x65536 32)

/-- The array of new codes. -/
def codes : IVec S96x65536 8 := fun y => Row.code (w A0 A1 A2 A3 A4 (y 1)) (fun x => A5 (ix2 x (y 1))) (y 0)
/-- The array of new scales. -/
def scales : FVec Ideal S512x128 .f32 := fun y => Row.scale (w A0 A1 A2 A3 A4 (colOf (y 0) (y 1)))
/-- The array of new biases. -/
def lows : FVec Ideal S512x128 .f32 := fun y => Row.low (w A0 A1 A2 A3 A4 (colOf (y 0) (y 1)))
/-- The array of new states. -/
def states : FVec Ideal S512x128 .f32 := fun y =>
  Row.state (fun x => A0 (ix2 x (colOf (y 0) (y 1)))) (A4 (at2 (colOf (y 0) (y 1))))

/-- Every window moves one block per grid point: along the columns, or along the rows of the 512 by 128 arrays. -/
theorem idx : ∀ t : Fin cfg0.N,
    win0_0.index t = ![0, t.val] ∧ win0_1.index t = ![0, t.val] ∧ win0_2.index t = ![t.val, 0] ∧ win0_3.index t = ![t.val, 0]
    ∧ win0_4.index t = ![t.val, 0] ∧ win0_5.index t = ![0, t.val] ∧ win0_6.index t = ![0, t.val] ∧ win0_7.index t = ![t.val, 0]
    ∧ win0_8.index t = ![t.val, 0] ∧ win0_9.index t = ![t.val, 0] := (by decide +kernel : ∀ t : Fin grid0.N, _)

variable (m : (ℓ : Loc nD τ sig) → Buf (Elt Ideal) ℓ) (c : Dev nD)

theorem read0 (A : FVec Ideal S96x65536 .f32) (t : Fin cfg0.N) (x : Fin 96) (n : Fin 2048) (q : Fin 65536) (hq : q.val = 2048 * t.val + n.val) :
    ((cfg0.win 0).blk t).view.read (Elt Ideal) A (ix2 x n) = A (ix2 x q) := by
  blk_ext [idx t]
theorem read1 (A : IVec S24x65536 32) (t : Fin cfg0.N) (x : Fin 24) (n : Fin 2048) (q : Fin 65536) (hq : q.val = 2048 * t.val + n.val) :
    ((cfg0.win 1).blk t).view.read (Elt Ideal) A (ix2 x n) = A (ix2 x q) := by
  blk_ext [idx t]
theorem read5 (A : IVec S96x65536 32) (t : Fin cfg0.N) (x : Fin 96) (n : Fin 2048) (q : Fin 65536) (hq : q.val = 2048 * t.val + n.val) :
    ((cfg0.win 5).blk t).view.read (Elt Ideal) A (ix2 x n) = A (ix2 x q) := by
  blk_ext [idx t]
theorem read2 (A : FVec Ideal S512x128 .f32) (t : Fin cfg0.N) (a : Fin 16) (l : Fin 128) (q : Fin 512) (hq : q.val = 16 * t.val + a.val) :
    ((cfg0.win 2).blk t).view.read (Elt Ideal) A (ix2 a l) = A (ix2 q l) := by
  blk_ext [idx t]
theorem read3 (A : FVec Ideal S512x128 .f32) (t : Fin cfg0.N) (a : Fin 16) (l : Fin 128) (q : Fin 512) (hq : q.val = 16 * t.val + a.val) :
    ((cfg0.win 3).blk t).view.read (Elt Ideal) A (ix2 a l) = A (ix2 q l) := by
  blk_ext [idx t]
theorem read4 (A : FVec Ideal S512x128 .f32) (t : Fin cfg0.N) (a : Fin 16) (l : Fin 128) (q : Fin 512) (hq : q.val = 16 * t.val + a.val) :
    ((cfg0.win 4).blk t).view.read (Elt Ideal) A (ix2 a l) = A (ix2 q l) := by
  blk_ext [idx t]

/-- A grid point's weights are the arrays' columns. -/
theorem w_read (t : Fin cfg0.N) (n : Fin 2048) (q : Fin 65536) (hq : q.val = 2048 * t.val + n.val) :
    Block.w (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) n = w A0 A1 A2 A3 A4 q := by
  have e0 := funext fun x => read0 A0 t x n q hq
  have e1 := funext fun x => read1 A1 t x n q hq
  have hd : (⟨q.val / 128, by omega⟩ : Fin 512).val = 16 * t.val + (⟨n.val / 128, by omega⟩ : Fin 16).val := by
    simp only; omega
  have hm : (⟨q.val % 128, by omega⟩ : Fin 128) = ⟨n.val % 128, by omega⟩ := Fin.ext (by simp only; omega)
  unfold Block.w w
  rw [e0, e1, read2 A2 t _ _ _ hd, read3 A3 t _ _ _ hd, read4 A4 t _ _ _ hd]
  unfold at2
  rw [hm]

/-- Block `t` of the array of new codes. -/
theorem codes_read (t : Fin cfg0.N) (y : S96x2048.Idx) :
    Block.codes (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (((cfg0.win 5).blk t).view.read (Elt Ideal) A5) y
      = codes A0 A1 A2 A3 A4 A5 (((cfg0.win 6).blk t).view.emb y) := by
  obtain ⟨k, n, rfl⟩ : ∃ k n, y = ix2 k n := ⟨_, _, eq_ix2 y⟩
  obtain ⟨q, hq⟩ : ∃ q : Fin 65536, q.val = 2048 * t.val + n.val :=
    ⟨⟨2048 * t.val + n.val, by have := t.isLt; have : cfg0.N = 32 := rfl; omega⟩, rfl⟩
  have e : ((cfg0.win 6).blk t).view.emb (ix2 k n) = ix2 k q := by blk_ext [idx t]
  rw [e]
  show Row.code (Block.w _ _ _ _ _ n) _ k = Row.code (w A0 A1 A2 A3 A4 q) (fun x => A5 (ix2 x q)) k
  rw [w_read A0 A1 A2 A3 A4 t n q hq]
  exact congrArg (fun r => Row.code _ r k) (funext fun x => read5 A5 t x n q hq)

/-- Block `t` of the array of new scales. -/
theorem scales_read (t : Fin cfg0.N) (y : S16x128.Idx) :
    Block.scales (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) y
      = scales A0 A1 A2 A3 A4 (((cfg0.win 7).blk t).view.emb y) := by
  obtain ⟨j, l, rfl⟩ : ∃ j l, y = ix2 j l := ⟨_, _, eq_ix2 y⟩
  obtain ⟨q, hq⟩ : ∃ q : Fin 512, q.val = 16 * t.val + j.val :=
    ⟨⟨16 * t.val + j.val, by have := t.isLt; have : cfg0.N = 32 := rfl; omega⟩, rfl⟩
  have e : ((cfg0.win 7).blk t).view.emb (ix2 j l) = ix2 q l := by blk_ext [idx t]
  rw [e]
  show Row.scale (Block.w _ _ _ _ _ (Block.colOf j l)) = Row.scale (w A0 A1 A2 A3 A4 (colOf q l))
  rw [w_read A0 A1 A2 A3 A4 t _ (colOf q l) (by simp only; omega)]

/-- Block `t` of the array of new biases. -/
theorem lows_read (t : Fin cfg0.N) (y : S16x128.Idx) :
    Block.lows (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) y
      = lows A0 A1 A2 A3 A4 (((cfg0.win 8).blk t).view.emb y) := by
  obtain ⟨j, l, rfl⟩ : ∃ j l, y = ix2 j l := ⟨_, _, eq_ix2 y⟩
  obtain ⟨q, hq⟩ : ∃ q : Fin 512, q.val = 16 * t.val + j.val :=
    ⟨⟨16 * t.val + j.val, by have := t.isLt; have : cfg0.N = 32 := rfl; omega⟩, rfl⟩
  have e : ((cfg0.win 8).blk t).view.emb (ix2 j l) = ix2 q l := by blk_ext [idx t]
  rw [e]
  show Row.low (Block.w _ _ _ _ _ (Block.colOf j l)) = Row.low (w A0 A1 A2 A3 A4 (colOf q l))
  rw [w_read A0 A1 A2 A3 A4 t _ (colOf q l) (by simp only; omega)]

/-- Block `t` of the array of new states. -/
theorem states_read (t : Fin cfg0.N) (y : S16x128.Idx) :
    Block.states (((cfg0.win 0).blk t).view.read (Elt Ideal) A0) (((cfg0.win 4).blk t).view.read (Elt Ideal) A4) y
      = states A0 A4 (((cfg0.win 9).blk t).view.emb y) := by
  obtain ⟨j, l, rfl⟩ : ∃ j l, y = ix2 j l := ⟨_, _, eq_ix2 y⟩
  obtain ⟨q, hq⟩ : ∃ q : Fin 512, q.val = 16 * t.val + j.val :=
    ⟨⟨16 * t.val + j.val, by have := t.isLt; have : cfg0.N = 32 := rfl; omega⟩, rfl⟩
  have e : ((cfg0.win 9).blk t).view.emb (ix2 j l) = ix2 q l := by blk_ext [idx t]
  have e0 := funext fun x => read0 A0 t x (Block.colOf j l) (colOf q l) (by simp only; omega)
  have e2 : at2 (colOf q l) = ix2 q l := by
    unfold at2 colOf
    congr 1 <;> apply Fin.ext <;> simp only <;> omega
  rw [e]
  show Row.state (fun x => ((cfg0.win 0).blk t).view.read (Elt Ideal) A0 (ix2 x (Block.colOf j l)))
      (((cfg0.win 4).blk t).view.read (Elt Ideal) A4 (Block.at2 (Block.colOf j l)))
    = Row.state (fun x => A0 (ix2 x (colOf q l))) (A4 (at2 (colOf q l)))
  rw [e0, e2, Block.at2_colOf, read4 A4 t j l q hq]

section Final

variable (m : (ℓ : Loc nD τ sig) → Buf (Elt Ideal) ℓ) (c : Dev nD)

/-- After the last grid point the array of new codes is `codes` of the arrays the region is entered with. -/
theorem final6 : (dats m 0 c).arrAt 6 cfg0.N
    = codes (V m c main_v27) (V m c main_v26) (V m c main_v35) (V m c main_v43) (V m c main_v51) (V m c main_v52) := by
  refine (dats m 0 c).arrAt_eq_of_covers 6 _ (by decide +kernel) fun t hf y => ?_
  rw [after0_6]
  exact (Block.out6_apply _ _ _ _ _ _ y).trans (codes_read (V m c main_v27) (V m c main_v26) (V m c main_v35) (V m c main_v43) (V m c main_v51) (V m c main_v52) t y)

/-- After the last grid point the array of new scales is `scales` of the arrays the region is entered with. -/
theorem final7 : (dats m 0 c).arrAt 7 cfg0.N
    = scales (V m c main_v27) (V m c main_v26) (V m c main_v35) (V m c main_v43) (V m c main_v51) := by
  refine (dats m 0 c).arrAt_eq_of_covers 7 _ (by decide +kernel) fun t hf y => ?_
  rw [after0_7]
  exact (Block.out7_apply _ _ _ _ _ _ y).trans (scales_read (V m c main_v27) (V m c main_v26) (V m c main_v35) (V m c main_v43) (V m c main_v51) t y)

/-- After the last grid point the array of new biases is `lows` of the arrays the region is entered with. -/
theorem final8 : (dats m 0 c).arrAt 8 cfg0.N
    = lows (V m c main_v27) (V m c main_v26) (V m c main_v35) (V m c main_v43) (V m c main_v51) := by
  refine (dats m 0 c).arrAt_eq_of_covers 8 _ (by decide +kernel) fun t hf y => ?_
  rw [after0_8]
  exact (Block.out8_apply _ _ _ _ _ _ y).trans (lows_read (V m c main_v27) (V m c main_v26) (V m c main_v35) (V m c main_v43) (V m c main_v51) t y)

/-- After the last grid point the array of new states is `states` of the arrays the region is entered with. -/
theorem final9 : (dats m 0 c).arrAt 9 cfg0.N
    = states (V m c main_v27) (V m c main_v51) := by
  refine (dats m 0 c).arrAt_eq_of_covers 9 _ (by decide +kernel) fun t hf y => ?_
  rw [after0_9]
  exact (Block.out9_apply _ _ _ _ _ _ y).trans (states_read (V m c main_v27) (V m c main_v51) t y)

end Final

end Cert.KernelIdeal.Array

end
-- ==== Proof.Entry.lean ====
module

public import proofs.«01_k».proof.Proof.Array
public import Idealize.ShloMosaic.Lib.StableHlo.ReadAt
public import Idealize.ShloMosaic.Lib.Claim

@[expose] public section

/-!
# The arrays the kernel's region is entered with

The host operations before the region gather the touched rows of the table and add up their gradients. They are named
here over the arguments.
-/

set_option maxRecDepth 16384

noncomputable section

namespace Cert.KernelIdeal.Entry

open Idealize.ShloMosaic Idealize.ShloMosaic.TcCoe Idealize.SL.Sem Cert.KernelIdeal Cert.KernelIdeal.Gen

variable {F : FTy → Type} [FloatOps F]

/-- For each of the 262144 positions, how many of the 2049 offsets are at most it, minus one: the segment it lies in. -/
def segments (a6 : IVec S2049 32) : IVec S262144 32 :=
  subi (Host.reduce IntOp.addi
      (extui 32 (cmpi .sle (broadcastInDim S2049x262144 ![0, 1] bcast_S2049x1_S2049x262144_0_1 (broadcastInDim S2049x1 ![0] bcast_S2049_S2049x1_0 a6))
        (broadcastInDim S2049x262144 ![0, 1] bcast_S1x262144_S2049x262144_0_1 (broadcastInDim S1x262144 ![1] bcast_S262144_S1x262144_1 (iotaInDim S262144 32 0)))) natLt_1_32)
      (constantI S_ 32 0#32) reducesTo_S2049x262144_S262144_d0)
    (broadcastInDim S262144 ![] bcast_S_S262144 (constantI S_ 32 1#32))

/-- The gradient of every touched row: the segments' incoming gradients, weighted, added into the rows they belong to. -/
def grads (a5 : IVec S262144 32) (a6 : IVec S2049 32) (a7 : FVec F S262144 .f32) (a8 : FVec F S2048x96 .f32) : FVec F S65536x96 .f32 :=
  Host.scatterAdd scatter_S65536x96_S262144x1_S262144x96_1_0_0_1
    (broadcastInDim S65536x96 ![] bcast_S_S65536x96 (constant S_ .f32 0x00000000#32))
    (broadcastInDim S262144x1 ![0] bcast_S262144_S262144x1_0 a5)
    (mulf (broadcastInDim S262144x96 ![0, 1] bcast_S262144x1_S262144x96_0_1 (broadcastInDim S262144x1 ![0] bcast_S262144_S262144x1_0 a7))
      (Host.gather gather_S2048x96_S262144x1_S262144x96_1_0_n_n_0_1_196 a8
        (broadcastInDim S262144x1 ![0] bcast_S262144_S262144x1_0
          (select (cmpi .slt (segments a6) (broadcastInDim S262144 ![] bcast_S_S262144 (constantI S_ 32 0#32)))
            (addi (segments a6) (broadcastInDim S262144 ![] bcast_S_S262144 (constantI S_ 32 2048#32))) (segments a6)))))

/-- The touched rows' places in the table, a negative one counted from the end. -/
def places (a4 : IVec S65536 32) : IVec S65536x1 32 :=
  broadcastInDim S65536x1 ![0] bcast_S65536_S65536x1_0
    (select (cmpi .slt a4 (broadcastInDim S65536 ![] bcast_S_S65536 (constantI S_ 32 0#32)))
      (addi a4 (broadcastInDim S65536 ![] bcast_S_S65536 (constantI S_ 32 3000000#32))) a4)

/-- The touched rows' codes. -/
def takeCodes (a0 : IVec S3000000x96 8) (a4 : IVec S65536 32) : IVec S65536x96 8 :=
  Host.gather gather_S3000000x96_S65536x1_S65536x96_1_0_n_n_0_1_196 a0 (places a4)

/-- The touched rows' entries of a column of the table. -/
def takeCol (a : FVec F S3000000 .f32) (a4 : IVec S65536 32) : FVec F S65536 .f32 :=
  Host.gather gather_S3000000_S65536x1_S65536_n_0_n_n_0_1_1 a (places a4)

section Reads

variable (m : (ℓ : Loc nD τ sig) → Buf (Elt F) ℓ) (c : Dev nD)

/-- The random words, a row of the table per column. -/
theorem entry52 : V m c main_v52 = transpose S96x65536 [1, 0] (m ((c : Thread nD τ).loc main_arg9)) transposes_S65536x96_S96x65536_1_0 := by
  unfold V V0
  after_reads_simp

/-- The touched rows' stored scales, 128 to a line. -/
theorem entry35 : V m c main_v35 = shapeCast S512x128 (takeCol (m ((c : Thread nD τ).loc main_arg1)) (m ((c : Thread nD τ).loc main_arg4))) shapeCasts_S65536_S512x128 := by
  unfold V V0
  after_reads_simp
  rfl

/-- The touched rows' stored biases, 128 to a line. -/
theorem entry43 : V m c main_v43 = shapeCast S512x128 (takeCol (m ((c : Thread nD τ).loc main_arg2)) (m ((c : Thread nD τ).loc main_arg4))) shapeCasts_S65536_S512x128 := by
  unfold V V0
  after_reads_simp
  rfl

/-- The touched rows' stored states, 128 to a line. -/
theorem entry51 : V m c main_v51 = shapeCast S512x128 (takeCol (m ((c : Thread nD τ).loc main_arg3)) (m ((c : Thread nD τ).loc main_arg4))) shapeCasts_S65536_S512x128 := by
  unfold V V0
  after_reads_simp
  rfl

/-- The touched rows' codes, four to a word, a row of the table per column. -/
theorem entry26 : V m c main_v26 = transpose S24x65536 [1, 0]
    (Host.bitcastConvertWiden S65536x24 32 (shapeCast S65536x24x4 (takeCodes (m ((c : Thread nD τ).loc main_arg0)) (m ((c : Thread nD τ).loc main_arg4))) shapeCasts_S65536x96_S65536x24x4)
      splits_S65536x24_w32_S65536x24x4_w8) transposes_S65536x24_S24x65536_1_0 := by
  unfold V V0
  after_reads_simp
  rfl

/-- The touched rows' gradients, a row of the table per column. -/
theorem entry27 : V m c main_v27 = transpose S96x65536 [1, 0] (grads (m ((c : Thread nD τ).loc main_arg5)) (m ((c : Thread nD τ).loc main_arg6)) (m ((c : Thread nD τ).loc main_arg7)) (m ((c : Thread nD τ).loc main_arg8))) transposes_S65536x96_S96x65536_1_0 := by
  unfold V V0
  after_reads_simp
  simp -implicitDefEqProofs only [StableHlo.TRef.toBuf, StableHlo.TRef.ofBuf, cast_cast, cast_eq]
  rfl

end Reads

end Cert.KernelIdeal.Entry

end
-- ==== Proof.Final.lean ====
module

public import proofs.«01_k».proof.Proof.Entry

@[expose] public section

/-!
# The kernel's results

The host operations after the region lay the result arrays out a row of the table per line.
-/

set_option maxRecDepth 16384

noncomputable section

namespace Cert.KernelIdeal.Final

open Idealize.ShloMosaic Idealize.ShloMosaic.TcCoe Idealize.SL.Sem Cert.KernelIdeal Cert.KernelIdeal.Gen

variable (m : (ℓ : Loc nD τ sig) → Buf (Elt Ideal) ℓ) (c : Dev nD)

/-- The result of new codes. -/
theorem tail54 : Pipeline.afterTail₀ cfgs (dats m) 0 (V0 m) [hostOps1] c main_v54
    = transpose S65536x96 [1, 0] (Array.codes (V m c main_v27) (V m c main_v26) (V m c main_v35) (V m c main_v43) (V m c main_v51) (V m c main_v52)) transposes_S96x65536_S65536x96_1_0 := by
  have h : Pipeline.withArrays spec0 c (V0 m c) (fun w => (dats m 0 c).arrAt w (cfgs 0).N) (Proc.devRef .tc main_v53_0)
      = (dats m 0 c).arrAt 6 cfg0.N := Pipeline.withArrays_arr spec0 winFacts0.arr_inj c _ _ 6
  rw [Array.final6] at h
  unfold Pipeline.afterTail₀
  rw [← h]
  after_reads_simp

/-- The result of new scales. -/
theorem tail55 : Pipeline.afterTail₀ cfgs (dats m) 0 (V0 m) [hostOps1] c main_v55
    = shapeCast S65536 (Array.scales (V m c main_v27) (V m c main_v26) (V m c main_v35) (V m c main_v43) (V m c main_v51)) shapeCasts_S512x128_S65536 := by
  have h : Pipeline.withArrays spec0 c (V0 m c) (fun w => (dats m 0 c).arrAt w (cfgs 0).N) (Proc.devRef .tc main_v53_1)
      = (dats m 0 c).arrAt 7 cfg0.N := Pipeline.withArrays_arr spec0 winFacts0.arr_inj c _ _ 7
  rw [Array.final7] at h
  unfold Pipeline.afterTail₀
  rw [← h]
  after_reads_simp
  rfl

/-- The result of new biases. -/
theorem tail56 : Pipeline.afterTail₀ cfgs (dats m) 0 (V0 m) [hostOps1] c main_v56
    = shapeCast S65536 (Array.lows (V m c main_v27) (V m c main_v26) (V m c main_v35) (V m c main_v43) (V m c main_v51)) shapeCasts_S512x128_S65536 := by
  have h : Pipeline.withArrays spec0 c (V0 m c) (fun w => (dats m 0 c).arrAt w (cfgs 0).N) (Proc.devRef .tc main_v53_2)
      = (dats m 0 c).arrAt 8 cfg0.N := Pipeline.withArrays_arr spec0 winFacts0.arr_inj c _ _ 8
  rw [Array.final8] at h
  unfold Pipeline.afterTail₀
  rw [← h]
  after_reads_simp
  rfl

/-- The result of new states. -/
theorem tail57 : Pipeline.afterTail₀ cfgs (dats m) 0 (V0 m) [hostOps1] c main_v57
    = shapeCast S65536 (Array.states (V m c main_v27) (V m c main_v51)) shapeCasts_S512x128_S65536 := by
  have h : Pipeline.withArrays spec0 c (V0 m c) (fun w => (dats m 0 c).arrAt w (cfgs 0).N) (Proc.devRef .tc main_v53_3)
      = (dats m 0 c).arrAt 9 cfg0.N := Pipeline.withArrays_arr spec0 winFacts0.arr_inj c _ _ 9
  rw [Array.final9] at h
  unfold Pipeline.afterTail₀
  rw [← h]
  after_reads_simp
  rfl

/-! ## Read at an index, over the gathered rows -/

section At

variable (g : FVec Ideal S65536x96 .f32) (cd : IVec S65536x96 8) (sc bi mom : FVec Ideal S65536 .f32) (rd : IVec S65536x96 32)

/-- The new weights of row `n`. -/
def w (n : Fin 65536) : Fin 96 → EReal :=
  Row.weight (fun x => g (ix2 n x)) (mom (ix1 n)) (fun x => cd (ix2 n x)) (sc (ix1 n)) (bi (ix1 n))

/-- The packed codes of a row, unpacked, are its codes. -/
theorem bytes_at (n : Fin 65536) : (Row.byte fun x => transpose S24x65536 [1, 0]
    (Host.bitcastConvertWiden S65536x24 32 (shapeCast S65536x24x4 cd shapeCasts_S65536x96_S65536x24x4)
      splits_S65536x24_w32_S65536x24x4_w8) transposes_S65536x24_S24x65536_1_0 (ix2 x n)) = fun x => cd (ix2 n x) := by
  funext k
  unfold Row.byte
  have e : transpose S24x65536 [1, 0]
      (Host.bitcastConvertWiden S65536x24 32 (shapeCast S65536x24x4 cd shapeCasts_S65536x96_S65536x24x4)
        splits_S65536x24_w32_S65536x24x4_w8) transposes_S65536x24_S24x65536_1_0 (ix2 ⟨k.val / 4, by omega⟩ n)
      = Host.bitcastConvertWiden S65536x24 32 (shapeCast S65536x24x4 cd shapeCasts_S65536x96_S65536x24x4)
        splits_S65536x24_w32_S65536x24x4_w8 (ix2 n ⟨k.val / 4, by omega⟩) := by
    pointwise
  beta_reduce
  rw [e]
  apply BitVec.eq_of_getLsbD_eq
  intro q hq
  rw [BitVec.getLsbD_extractLsb', decide_eq_true hq, Bool.true_and,
    Host.bitcastConvertWiden_getLsbD _ _ _ _ _ _ (by omega)]
  have es : splits_S65536x24_w32_S65536x24x4_w8.snoc (ix2 n ⟨k.val / 4, by omega⟩)
      ⟨(8 * (k.val % 4) + q) / 8, splits_S65536x24_w32_S65536x24x4_w8.div_lt (by omega)⟩
      = ix3 n ⟨k.val / 4, by omega⟩ ⟨k.val % 4, by omega⟩ := by
    funext a
    match a with
    | ⟨0, _⟩ => rfl
    | ⟨1, _⟩ => rfl
    | ⟨2, _⟩ => exact Fin.ext (by show (8 * (k.val % 4) + q) / 8 = k.val % 4; omega)
  rw [es]
  have eq : (8 * (k.val % 4) + q) % 8 = q := by omega
  rw [eq]
  congr 1
  pointwise

/-- A gathered column, 128 to a line, at the place of column `n`. -/
theorem col_at (n : Fin 65536) (x : FVec Ideal S65536 .f32) :
    shapeCast S512x128 x shapeCasts_S65536_S512x128 (Array.at2 n) = x (ix1 n) := by
  unfold Array.at2
  pointwise

/-- A transposed array's column is the array's row. -/
theorem row_at (n : Fin 65536) {α : Type} (x : S65536x96.Idx → α) :
    (fun k => transpose S96x65536 [1, 0] x transposes_S65536x96_S96x65536_1_0 (ix2 k n)) = fun k => x (ix2 n k) := by
  funext k
  pointwise

/-- The arrays' weights of column `n` are the gathered rows' of row `n`. -/
theorem w_at (n : Fin 65536) :
    Array.w (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128) (shapeCast S512x128 mom shapeCasts_S65536_S512x128) n = w g cd sc bi mom n := by
  unfold Array.w w
  rw [bytes_at, row_at, col_at, col_at, col_at]

/-- The result of new codes at row `n`, entry `k`. -/
theorem codes_at (n : Fin 65536) (k : Fin 96) :
    transpose S65536x96 [1, 0] (Array.codes (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128) (shapeCast S512x128 mom shapeCasts_S65536_S512x128) (transpose S96x65536 [1, 0] rd transposes_S65536x96_S96x65536_1_0)) transposes_S96x65536_S65536x96_1_0 (ix2 n k)
      = Row.code (w g cd sc bi mom n) (fun x => rd (ix2 n x)) k := by
  pointwise
  show Row.code (Array.w _ _ _ _ _ n) (fun x => transpose S96x65536 [1, 0] rd transposes_S65536x96_S96x65536_1_0 (ix2 x n)) k = _
  rw [w_at, row_at]

/-- A result array, 128 to a line, laid flat, at row `n`. -/
theorem flat_at (n : Fin 65536) (x : FVec Ideal S512x128 .f32) :
    shapeCast S65536 x shapeCasts_S512x128_S65536 (ix1 n) = x (ix2 ⟨n.val / 128, by omega⟩ ⟨n.val % 128, by omega⟩) := by
  pointwise

/-- The column of row `n`'s place is `n`. -/
theorem colOf_at2 (n : Fin 65536) : Array.colOf ⟨n.val / 128, by omega⟩ ⟨n.val % 128, by omega⟩ = n :=
  Fin.ext (by simp only; omega)

/-- The result of new scales at row `n`. -/
theorem scales_at (n : Fin 65536) :
    shapeCast S65536 (Array.scales (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128) (shapeCast S512x128 mom shapeCasts_S65536_S512x128)) shapeCasts_S512x128_S65536 (ix1 n) = Row.scale (w g cd sc bi mom n) := by
  rw [flat_at]
  show Row.scale (Array.w _ _ _ _ _ (Array.colOf ⟨n.val / 128, _⟩ ⟨n.val % 128, _⟩)) = _
  rw [colOf_at2, w_at]

/-- The result of new biases at row `n`. -/
theorem lows_at (n : Fin 65536) :
    shapeCast S65536 (Array.lows (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128) (shapeCast S512x128 mom shapeCasts_S65536_S512x128)) shapeCasts_S512x128_S65536 (ix1 n) = Row.low (w g cd sc bi mom n) := by
  rw [flat_at]
  show Row.low (Array.w _ _ _ _ _ (Array.colOf ⟨n.val / 128, _⟩ ⟨n.val % 128, _⟩)) = _
  rw [colOf_at2, w_at]

/-- The result of new states at row `n`. -/
theorem states_at (n : Fin 65536) :
    shapeCast S65536 (Array.states (transpose S96x65536 [1, 0] g transposes_S65536x96_S96x65536_1_0) (shapeCast S512x128 mom shapeCasts_S65536_S512x128)) shapeCasts_S512x128_S65536 (ix1 n)
      = Row.state (fun x => g (ix2 n x)) (mom (ix1 n)) := by
  rw [flat_at]
  unfold Array.states
  show Row.state (fun x => transpose S96x65536 [1, 0] g transposes_S65536x96_S96x65536_1_0 (ix2 x (Array.colOf ⟨n.val / 128, _⟩ ⟨n.val % 128, _⟩)))
    (shapeCast S512x128 mom shapeCasts_S65536_S512x128 (Array.at2 (Array.colOf ⟨n.val / 128, _⟩ ⟨n.val % 128, _⟩))) = _
  rw [colOf_at2, row_at, col_at]

end At

end Cert.KernelIdeal.Final

end
-- ==== Proof.Ref.lean ====
module

public import proofs.«01_k».proof.Proof.Entry
public import proofs.«01_k».proof.Proof.Gen.ReferenceIdeal.Run

@[expose] public section

/-!
# The reference's results, read at an index

The reference gathers the same rows and adds up the same gradients (`Cert.KernelIdeal.Entry`), then works on all rows at
once. Its results are named step by step over the gathered rows, and each is read at an index: it is `Cert.Row` of the row.
-/

set_option maxRecDepth 16384

noncomputable section

namespace Cert.ReferenceIdeal.Ref

open Idealize.ShloMosaic Idealize.ShloMosaic.TcCoe Idealize.SL.Sem Cert.ReferenceIdeal Cert.ReferenceIdeal.Gen
open Cert.KernelIdeal.Entry (grads takeCodes takeCol)

section Terms

variable {F : FTy → Type} [FloatOps F]
variable (g : FVec F S65536x96 .f32) (cd : IVec S65536x96 8) (sc bi mom : FVec F S65536 .f32) (rd : IVec S65536x96 32)

/-- A value per row, on all of the row's entries. -/
def spread (x : FVec F S65536 .f32) : FVec F S65536x96 .f32 :=
  broadcastInDim S65536x96 ![0, 1] bcast_S65536x1_S65536x96_0_1 (broadcastInDim S65536x1 ![0] bcast_S65536_S65536x1_0 x)

/-- The new states. -/
def stateT : FVec F S65536 .f32 :=
  addf mom (Host.divf (Host.reduceAdd (mulf g g) (constant S_ .f32 0x00000000#32) reducesTo_S65536x96_S65536_d1 h_S_)
    (broadcastInDim S65536 ![] bcast_S_S65536 (constant S_ .f32 0x42C00000#32)))

/-- The new weights. -/
def weightT : FVec F S65536x96 .f32 :=
  subf (addf (mulf (sitofp .f32 (extui 32 cd natLt_8_32)) (spread sc)) (spread bi))
    (mulf (spread (Host.divf (broadcastInDim S65536 ![] bcast_S_S65536 (constant S_ .f32 0x3CA3D70A#32))
      (addf (Host.sqrt (stateT g mom)) (broadcastInDim S65536 ![] bcast_S_S65536 (constant S_ .f32 0x322BCC77#32))))) g)

variable (w : FVec F S65536x96 .f32)

/-- The new biases. -/
def lowT : FVec F S65536 .f32 := Host.reduce FloatOps.minimumf w (constant S_ .f32 0x7F800000#32) reducesTo_S65536x96_S65536_d1 h_S_

/-- The greatest weights. -/
def highT : FVec F S65536 .f32 := Host.reduce FloatOps.maximumf w (constant S_ .f32 0xFF800000#32) reducesTo_S65536x96_S65536_d1 h_S_

/-- The new scales, from the ranges `rg`. -/
def scaleT (rg : FVec F S65536 .f32) : FVec F S65536 .f32 :=
  Host.divf rg (broadcastInDim S65536 ![] bcast_S_S65536 (constant S_ .f32 0x437F0000#32))

/-- The new codes, from the new weights, the new biases `lo` and the ranges `rg`. -/
def codeT (lo rg : FVec F S65536 .f32) : IVec S65536x96 8 :=
  trunci 8 (fptosi 32 (minimumf (broadcastInDim S65536x96 ![] bcast_S_S65536x96 (id (constant S_ .f32 0x437F0000#32)))
    (maximumf (broadcastInDim S65536x96 ![] bcast_S_S65536x96 (id (constant S_ .f32 0x00000000#32)))
      (Host.floor (addf (mulf (subf w (spread lo))
        (spread (Host.divf (broadcastInDim S65536 ![] bcast_S_S65536 (constant S_ .f32 0x437F0000#32))
          (addf rg (broadcastInDim S65536 ![] bcast_S_S65536 (constant S_ .f32 0x322BCC77#32))))))
        (mulf (uitofp .f32 (Host.shrui rd (broadcastInDim S65536x96 ![] bcast_S_S65536x96 (constantI S_ 32 8#32))))
          (broadcastInDim S65536x96 ![] bcast_S_S65536x96 (constant S_ .f32 0x33800000#32)))))))) natLt_8_32

end Terms

section Run

variable {F : FTy → Type} [FloatOps F] (m : (ℓ : Loc nD τ sig) → Buf (Elt F) ℓ) (c : Dev nD)

/-- The new weights, over the arguments. -/
abbrev weightM : FVec F S65536x96 .f32 :=
  weightT (grads (m ((c.tc : Thread nD τ).loc main_arg5)) (m ((c.tc : Thread nD τ).loc main_arg6)) (m ((c.tc : Thread nD τ).loc main_arg7)) (m ((c.tc : Thread nD τ).loc main_arg8)))
    (takeCodes (m ((c.tc : Thread nD τ).loc main_arg0)) (m ((c.tc : Thread nD τ).loc main_arg4)))
    (takeCol (m ((c.tc : Thread nD τ).loc main_arg1)) (m ((c.tc : Thread nD τ).loc main_arg4)))
    (takeCol (m ((c.tc : Thread nD τ).loc main_arg2)) (m ((c.tc : Thread nD τ).loc main_arg4)))
    (takeCol (m ((c.tc : Thread nD τ).loc main_arg3)) (m ((c.tc : Thread nD τ).loc main_arg4)))

/-- The reference's result of new states, over its arguments. -/
theorem res3 : Value.res_out3 m c = stateT (grads (m ((c.tc : Thread nD τ).loc main_arg5)) (m ((c.tc : Thread nD τ).loc main_arg6)) (m ((c.tc : Thread nD τ).loc main_arg7)) (m ((c.tc : Thread nD τ).loc main_arg8)))
    (takeCol (m ((c.tc : Thread nD τ).loc main_arg3)) (m ((c.tc : Thread nD τ).loc main_arg4))) := rfl
/-- The reference's result of new biases, over its arguments. -/
theorem res2 : Value.res_out2 m c = lowT (weightM m c) := by
  have h : Value.res_out2 m c = id (lowT (weightM m c)) := rfl
  exact h.trans (id_eq _)
/-- The reference's result of new scales, over its arguments. -/
theorem res1 : Value.res_out1 m c = scaleT (subf (highT (weightM m c)) (lowT (weightM m c))) := by
  have h : Value.res_out1 m c = id (scaleT (subf (highT (weightM m c)) (lowT (weightM m c)))) := rfl
  exact h.trans (id_eq _)
/-- The reference's result of new codes, over its arguments. -/
theorem res0 : Value.res_out0 m c = codeT (m ((c.tc : Thread nD τ).loc main_arg9)) (weightM m c) (lowT (weightM m c)) (subf (highT (weightM m c)) (lowT (weightM m c))) := by
  have h : Value.res_out0 m c = id (codeT (m ((c.tc : Thread nD τ).loc main_arg9)) (weightM m c) (lowT (weightM m c)) (subf (highT (weightM m c)) (lowT (weightM m c)))) := rfl
  exact h.trans (id_eq _)

end Run

section Ideal

variable (g : FVec Ideal S65536x96 .f32) (cd : IVec S65536x96 8) (sc bi mom : FVec Ideal S65536 .f32) (rd : IVec S65536x96 32)

/-- The new state of row `n`. -/
theorem state_at (n : Fin 65536) : stateT g mom (ix1 n) = Row.state (fun x => g (ix2 n x)) (mom (ix1 n)) := by
  pointwise [stateT]
  rfl

/-- The new weights of row `n`. -/
theorem weight_at (n : Fin 65536) (k : Fin 96) : weightT g cd sc bi mom (ix2 n k)
    = Row.weight (fun x => g (ix2 n x)) (mom (ix1 n)) (fun x => cd (ix2 n x)) (sc (ix1 n)) (bi (ix1 n)) k := by
  pointwise [weightT, spread]
  rw [state_at, Row.sitofp_byte]
  rfl

variable (w : FVec Ideal S65536x96 .f32)

/-- The new bias of row `n`. -/
theorem low_at (n : Fin 65536) : lowT w (ix1 n) = Row.low fun x => w (ix2 n x) := by
  pointwise [lowT]
  rfl

/-- The greatest weight of row `n`. -/
theorem high_at (n : Fin 65536) :
    highT w (ix1 n) = Finset.fold max (Ideal.ofBits FTy.f32 4286578688#32) (fun x => w (ix2 n x)) Finset.univ := by
  pointwise [highT]

/-- The range of row `n`. -/
theorem range_at (n : Fin 65536) (hi lo : FVec Ideal S65536 .f32)
    (h : hi (ix1 n) = Finset.fold max (Ideal.ofBits FTy.f32 4286578688#32) (fun x => w (ix2 n x)) Finset.univ)
    (l : lo (ix1 n) = Row.low fun x => w (ix2 n x)) : subf hi lo (ix1 n) = Row.range fun x => w (ix2 n x) := by
  pointwise
  rw [h, l]
  rfl

/-- The new scale of row `n`. -/
theorem scale_at (n : Fin 65536) (rg : FVec Ideal S65536 .f32) (r : rg (ix1 n) = Row.range fun x => w (ix2 n x)) :
    scaleT rg (ix1 n) = Row.scale fun x => w (ix2 n x) := by
  pointwise [scaleT]
  rw [r]
  rfl

/-- The new code at row `n`, entry `k`. -/
theorem code_at (n : Fin 65536) (k : Fin 96) (lo rg : FVec Ideal S65536 .f32) (l : lo (ix1 n) = Row.low fun x => w (ix2 n x))
    (r : rg (ix1 n) = Row.range fun x => w (ix2 n x)) :
    codeT rd w lo rg (ix2 n k) = Row.code (fun x => w (ix2 n x)) (fun x => rd (ix2 n x)) k := by
  pointwise [codeT, spread, id]
  rw [l, r, Row.shrui_eight]
  rfl

end Ideal

end Cert.ReferenceIdeal.Ref

end
-- ==== Proof.Agree.lean ====
module

public import proofs.«01_k».proof.Proof.Final
public import proofs.«01_k».proof.Proof.Ref

@[expose] public section

/-!
# The kernel's results are the reference's

Both are `Cert.Row` of the gathered rows at every index.
-/

set_option maxRecDepth 16384

noncomputable section

namespace Cert.Agree

open Idealize.ShloMosaic Idealize.ShloMosaic.TcCoe Idealize.SL.Sem Cert.KernelIdeal Cert.KernelIdeal.Gen
open Cert.KernelIdeal.Entry (grads takeCodes takeCol)

section Rows

variable (g : FVec Ideal S65536x96 .f32) (cd : IVec S65536x96 8) (sc bi mom : FVec Ideal S65536 .f32) (rd : IVec S65536x96 32)

/-- A row of the reference's new weights is the kernel's. -/
theorem weight_row (n : Fin 65536) : (fun x => Cert.ReferenceIdeal.Ref.weightT g cd sc bi mom (ix2 n x)) = Final.w g cd sc bi mom n :=
  funext (Cert.ReferenceIdeal.Ref.weight_at g cd sc bi mom n)

/-- The new states agree. -/
theorem states : shapeCast S65536 (Array.states (transpose S96x65536 [1, 0] g transposes_S65536x96_S96x65536_1_0)
      (shapeCast S512x128 mom shapeCasts_S65536_S512x128)) shapeCasts_S512x128_S65536 = Cert.ReferenceIdeal.Ref.stateT g mom := by
  funext i
  obtain ⟨n, rfl⟩ : ∃ n : Fin 65536, i = ix1 n := ⟨_, eq_ix1 i⟩
  exact (Final.states_at g mom _).trans (Cert.ReferenceIdeal.Ref.state_at g mom _).symm

/-- The new biases agree. -/
theorem lows : shapeCast S65536 (Array.lows (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128)
      (shapeCast S512x128 mom shapeCasts_S65536_S512x128)) shapeCasts_S512x128_S65536 = Cert.ReferenceIdeal.Ref.lowT (Cert.ReferenceIdeal.Ref.weightT g cd sc bi mom) := by
  funext i
  obtain ⟨n, rfl⟩ : ∃ n : Fin 65536, i = ix1 n := ⟨_, eq_ix1 i⟩
  refine (Final.lows_at g cd sc bi mom _).trans ?_
  rw [← weight_row]
  exact (Cert.ReferenceIdeal.Ref.low_at _ _).symm

/-- The new scales agree. -/
theorem scales : shapeCast S65536 (Array.scales (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128)
      (shapeCast S512x128 mom shapeCasts_S65536_S512x128)) shapeCasts_S512x128_S65536
    = Cert.ReferenceIdeal.Ref.scaleT (subf (Cert.ReferenceIdeal.Ref.highT (Cert.ReferenceIdeal.Ref.weightT g cd sc bi mom)) (Cert.ReferenceIdeal.Ref.lowT (Cert.ReferenceIdeal.Ref.weightT g cd sc bi mom))) := by
  funext i
  obtain ⟨n, rfl⟩ : ∃ n : Fin 65536, i = ix1 n := ⟨_, eq_ix1 i⟩
  refine (Final.scales_at g cd sc bi mom _).trans ?_
  rw [← weight_row]
  exact (Cert.ReferenceIdeal.Ref.scale_at _ _ _ (Cert.ReferenceIdeal.Ref.range_at _ _ _ _
    (Cert.ReferenceIdeal.Ref.high_at _ _) (Cert.ReferenceIdeal.Ref.low_at _ _))).symm

/-- The new codes agree. -/
theorem codes : transpose S65536x96 [1, 0] (Array.codes (transpose S96x65536 [1, 0] g transposes_S65536x96_S96x65536_1_0)
      (transpose S24x65536 [1, 0] (Host.bitcastConvertWiden S65536x24 32 (shapeCast S65536x24x4 cd shapeCasts_S65536x96_S65536x24x4)
      splits_S65536x24_w32_S65536x24x4_w8) transposes_S65536x24_S24x65536_1_0)
      (shapeCast S512x128 sc shapeCasts_S65536_S512x128) (shapeCast S512x128 bi shapeCasts_S65536_S512x128)
      (shapeCast S512x128 mom shapeCasts_S65536_S512x128)
      (transpose S96x65536 [1, 0] rd transposes_S65536x96_S96x65536_1_0)) transposes_S96x65536_S65536x96_1_0
    = Cert.ReferenceIdeal.Ref.codeT rd (Cert.ReferenceIdeal.Ref.weightT g cd sc bi mom) (Cert.ReferenceIdeal.Ref.lowT (Cert.ReferenceIdeal.Ref.weightT g cd sc bi mom))
      (subf (Cert.ReferenceIdeal.Ref.highT (Cert.ReferenceIdeal.Ref.weightT g cd sc bi mom)) (Cert.ReferenceIdeal.Ref.lowT (Cert.ReferenceIdeal.Ref.weightT g cd sc bi mom))) := by
  funext i
  obtain ⟨n, k, rfl⟩ : ∃ (n : Fin 65536) (k : Fin 96), i = ix2 n k := ⟨_, _, eq_ix2 i⟩
  refine (Final.codes_at g cd sc bi mom rd _ _).trans ?_
  rw [← weight_row]
  exact (Cert.ReferenceIdeal.Ref.code_at rd _ _ _ _ _ (Cert.ReferenceIdeal.Ref.low_at _ _) (Cert.ReferenceIdeal.Ref.range_at _ _ _ _
    (Cert.ReferenceIdeal.Ref.high_at _ _) (Cert.ReferenceIdeal.Ref.low_at _ _))).symm

end Rows

section Results

variable (m : (ℓ : Loc nD τ sig) → Buf (Elt Ideal) ℓ) (c : Dev nD)

/-- The new weights, over the kernel's arguments. -/
abbrev weightM : FVec Ideal S65536x96 .f32 :=
  Cert.ReferenceIdeal.Ref.weightT (grads (m ((c.tc : Thread nD τ).loc main_arg5)) (m ((c.tc : Thread nD τ).loc main_arg6)) (m ((c.tc : Thread nD τ).loc main_arg7)) (m ((c.tc : Thread nD τ).loc main_arg8)))
    (takeCodes (m ((c.tc : Thread nD τ).loc main_arg0)) (m ((c.tc : Thread nD τ).loc main_arg4)))
    (takeCol (m ((c.tc : Thread nD τ).loc main_arg1)) (m ((c.tc : Thread nD τ).loc main_arg4)))
    (takeCol (m ((c.tc : Thread nD τ).loc main_arg2)) (m ((c.tc : Thread nD τ).loc main_arg4)))
    (takeCol (m ((c.tc : Thread nD τ).loc main_arg3)) (m ((c.tc : Thread nD τ).loc main_arg4)))

/-- The kernel's result of new codes, as the reference writes it. -/
theorem tail54 : Pipeline.afterTail₀ cfgs (dats m) 0 (V0 m) [hostOps1] c main_v54
    = Cert.ReferenceIdeal.Ref.codeT (m ((c.tc : Thread nD τ).loc main_arg9)) (weightM m c) (Cert.ReferenceIdeal.Ref.lowT (weightM m c)) (subf (Cert.ReferenceIdeal.Ref.highT (weightM m c)) (Cert.ReferenceIdeal.Ref.lowT (weightM m c))) := by
  rw [Final.tail54, Entry.entry27, Entry.entry26, Entry.entry35, Entry.entry43, Entry.entry51, Entry.entry52]
  exact codes _ _ _ _ _ _

/-- The kernel's result of new scales, as the reference writes it. -/
theorem tail55 : Pipeline.afterTail₀ cfgs (dats m) 0 (V0 m) [hostOps1] c main_v55
    = Cert.ReferenceIdeal.Ref.scaleT (subf (Cert.ReferenceIdeal.Ref.highT (weightM m c)) (Cert.ReferenceIdeal.Ref.lowT (weightM m c))) := by
  rw [Final.tail55, Entry.entry27, Entry.entry26, Entry.entry35, Entry.entry43, Entry.entry51]
  exact scales _ _ _ _ _

/-- The kernel's result of new biases, as the reference writes it. -/
theorem tail56 : Pipeline.afterTail₀ cfgs (dats m) 0 (V0 m) [hostOps1] c main_v56 = Cert.ReferenceIdeal.Ref.lowT (weightM m c) := by
  rw [Final.tail56, Entry.entry27, Entry.entry26, Entry.entry35, Entry.entry43, Entry.entry51]
  exact lows _ _ _ _ _

/-- The kernel's result of new states, as the reference writes it. -/
theorem tail57 : Pipeline.afterTail₀ cfgs (dats m) 0 (V0 m) [hostOps1] c main_v57
    = Cert.ReferenceIdeal.Ref.stateT (F := Ideal) (grads (m ((c.tc : Thread nD τ).loc main_arg5)) (m ((c.tc : Thread nD τ).loc main_arg6)) (m ((c.tc : Thread nD τ).loc main_arg7)) (m ((c.tc : Thread nD τ).loc main_arg8)))
      (takeCol (m ((c.tc : Thread nD τ).loc main_arg3)) (m ((c.tc : Thread nD τ).loc main_arg4))) := by
  rw [Final.tail57, Entry.entry27, Entry.entry51]
  exact states _ _

end Results

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame: every run ends with the arguments as they were and every semaphore at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The reference's frame: its generated run read at the arguments; it declares no semaphore. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- What a host array holds after the operations that follow the kernel's region. -/
abbrev tail (m : (ℓ : Loc Cert.KernelIdeal.nD Cert.KernelIdeal.τ Cert.KernelIdeal.sig) → Buf (Elt Ideal) ℓ) (c : Dev Cert.KernelIdeal.nD) :=
  Pipeline.afterTail₀ Cert.KernelIdeal.cfgs (Cert.KernelIdeal.Gen.dats m) 0 (Cert.KernelIdeal.Gen.V0 m) [Cert.KernelIdeal.Gen.hostOps1] c

/-- The kernel's run: its four results are what the host operations after the region leave. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v54) = tail m c Cert.KernelIdeal.main_v54
        ∧ r.2.mem ((c.tc : Thread Cert.KernelIdeal.nD Cert.KernelIdeal.τ).loc Cert.KernelIdeal.main_v55) = tail m c Cert.KernelIdeal.main_v55
        ∧ r.2.mem ((c.tc : Thread Cert.KernelIdeal.nD Cert.KernelIdeal.τ).loc Cert.KernelIdeal.main_v56) = tail m c Cert.KernelIdeal.main_v56
        ∧ r.2.mem ((c.tc : Thread Cert.KernelIdeal.nD Cert.KernelIdeal.τ).loc Cert.KernelIdeal.main_v57) = tail m c Cert.KernelIdeal.main_v57)) :=
  (θ_run _ _ _).mono (fun _ h c =>
    ⟨(h.1 c).2 _ (Pipeline.mem_restRefs_of Cert.KernelIdeal.main_v54 (by decide) (by decide)),
      (h.1 c).2 _ (Pipeline.mem_restRefs_of Cert.KernelIdeal.main_v55 (by decide) (by decide)),
      (h.1 c).2 _ (Pipeline.mem_restRefs_of Cert.KernelIdeal.main_v56 (by decide) (by decide)),
      (h.1 c).2 _ (Pipeline.mem_restRefs_of Cert.KernelIdeal.main_v57 (by decide) (by decide))⟩)
    (Cert.KernelIdeal.Gen.run_main_quiescent m g)

/-- The kernel and the reference end with equal results: all four of each are the row-wise update of the gathered rows. -/
theorem algebraic : Cert.algebraic_KernelIdeal_ReferenceIdeal := fun m g m' g' _ hargs => by
  refine ⟨fun c => tail m c Cert.KernelIdeal.main_v54, fun c => tail m c Cert.KernelIdeal.main_v55,
    fun c => tail m c Cert.KernelIdeal.main_v56, fun c => tail m c Cert.KernelIdeal.main_v57,
    (θ_run _ _ _).mono (fun _ h c => ⟨(h.1 c).1, (h.1 c).2.1, (h.1 c).2.2.1, (h.1 c).2.2.2, h.2.1 c⟩)
      (θ_run_and (run_ideal m g) (Cert.KernelIdeal.Gen.frame m g)), ?_⟩
  refine (θ_run _ _ _).mono (fun _ h c => ?_) (Cert.ReferenceIdeal.Value.run (F := Ideal) m' g')
  obtain ⟨h0, h1, h2, h3, hf⟩ := h c
  have r0 := h0.trans (Cert.ReferenceIdeal.Ref.res0 m' c)
  have r1 := h1.trans (Cert.ReferenceIdeal.Ref.res1 m' c)
  have r2 := h2.trans (Cert.ReferenceIdeal.Ref.res2 m' c)
  have r3 := h3.trans (Cert.ReferenceIdeal.Ref.res3 m' c)
  unfold Cert.ReferenceIdeal.Ref.weightM at r0 r1 r2
  obtain ⟨a0, a1, a2, a3, a4, a5, a6, a7, a8, a9⟩ := hargs c
  rw [a0, a1, a2, a3, a4, a5, a6, a7, a8] at r1 r2
  rw [a0, a1, a2, a3, a4, a5, a6, a7, a8, a9] at r0
  rw [a3, a4, a5, a6, a7, a8] at r3
  exact ⟨r0.trans (Cert.Agree.tail54 m c).symm, r1.trans (Cert.Agree.tail55 m c).symm,
    r2.trans (Cert.Agree.tail56 m c).symm, r3.trans (Cert.Agree.tail57 m c).symm, hf⟩

/-- Everything claimed. -/
theorem claim : Cert.Claim := ⟨Cert.Kernel.Gen.facts, Cert.KernelIdeal.Gen.facts, Cert.ReferenceIdeal.Gen.facts,
  frame_kernel, frame_ideal, frame_ref, trivial, algebraic⟩

end Cert.Proof

end
